-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_longest_first_finite_candidate [hPre_longest_first_finite_candidate : Cert.Pre_longest_first_finite_candidate.Facts] (m : (ℓ : Loc Cert.KernelIdeal.nD Cert.KernelIdeal.τ Cert.KernelIdeal.sig) → Buf (Elt Ideal) ℓ) : Prop :=
  ∀ c : Dev Cert.KernelIdeal.nD,
    (Cert.Pre_longest_first_finite_candidate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_longest_first_finite_candidate [hPre_longest_first_finite_candidate : Cert.Pre_longest_first_finite_candidate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_longest_first_finite_candidate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_longest_first_finite_candidate [hKernelIdeal : Cert.KernelIdeal.Facts] [hPre_longest_first_finite_candidate : Cert.Pre_longest_first_finite_candidate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_longest_first_finite_candidate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_longest_first_finite_candidate [hReferenceIdeal : Cert.ReferenceIdeal.Facts] [hPre_longest_first_finite_candidate : Cert.Pre_longest_first_finite_candidate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_longest_first_finite_candidate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_longest_first_finite_candidate [hKernelIdeal : Cert.KernelIdeal.Facts] [hReferenceIdeal : Cert.ReferenceIdeal.Facts] [hPre_longest_first_finite_candidate : Cert.Pre_longest_first_finite_candidate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_longest_first_finite_candidate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_longest_first_finite_candidate : Cert.Pre_longest_first_finite_candidate.Facts),
    quiescent_Kernel (hKernel := hKernel)
    ∧ quiescent_KernelIdeal (hKernelIdeal := hKernelIdeal)
    ∧ quiescent_KernelIdeal_pre_longest_first_finite_candidate (hKernelIdeal := hKernelIdeal) (hPre_longest_first_finite_candidate := hPre_longest_first_finite_candidate)
    ∧ quiescent_ReferenceIdeal (hReferenceIdeal := hReferenceIdeal)
    ∧ quiescent_ReferenceIdeal_pre_longest_first_finite_candidate (hReferenceIdeal := hReferenceIdeal) (hPre_longest_first_finite_candidate := hPre_longest_first_finite_candidate)
    ∧ preserves_Kernel_KernelIdeal
    ∧ algebraic_KernelIdeal_ReferenceIdeal_pre_longest_first_finite_candidate (hKernelIdeal := hKernelIdeal) (hReferenceIdeal := hReferenceIdeal) (hPre_longest_first_finite_candidate := hPre_longest_first_finite_candidate)
-- ==== Pre_longest_first_finite_candidate.lean ====
abbrev S16x128x2048 : Shape := ⟨3, ![16, 128, 2048]⟩
abbrev S16 : Shape := ⟨1, ![16]⟩
abbrev S384x128 : Shape := ⟨2, ![384, 128]⟩
abbrev S384 : Shape := ⟨1, ![384]⟩
abbrev S1 : Shape := ⟨1, ![1]⟩
abbrev S_ : Shape := ⟨0, ![]⟩
abbrev S128x128 : Shape := ⟨2, ![128, 128]⟩
abbrev S128 : Shape := ⟨1, ![128]⟩
abbrev S16x1x1 : Shape := ⟨3, ![16, 1, 1]⟩
abbrev S1x128x128 : Shape := ⟨3, ![1, 128, 128]⟩
abbrev S16x128x128 : Shape := ⟨3, ![16, 128, 128]⟩
abbrev S1x128x1 : Shape := ⟨3, ![1, 128, 1]⟩

class Facts : Prop where
  slices_S16_S1_0 : S16.Slices ![0] S1
  shapeCasts_S1_S_ : S1.ShapeCasts S_
  bcast_S_S16 : S_.BroadcastsInDim S16 (![] : Fin 0 → Fin S16.rank)
  slices_S384x128_S128x128_256_0 : S384x128.Slices ![256, 0] S128x128
  bcast_S_S128x128 : S_.BroadcastsInDim S128x128 (![] : Fin 0 → Fin S128x128.rank)
  slices_S384_S128_256 : S384.Slices ![256] S128
  bcast_S_S128 : S_.BroadcastsInDim S128 (![] : Fin 0 → Fin S128.rank)
  bcast_S16_S16x1x1_0 : S16.BroadcastsInDim S16x1x1 (![0] : Fin 1 → Fin S16x1x1.rank)
  bcast_S128x128_S1x128x128_1_2 : S128x128.BroadcastsInDim S1x128x128 (![1, 2] : Fin 2 → Fin S1x128x128.rank)
  bcast_S16x1x1_S16x128x128_0_1_2 : S16x1x1.BroadcastsInDim S16x128x128 (![0, 1, 2] : Fin 3 → Fin S16x128x128.rank)
  bcast_S1x128x128_S16x128x128_0_1_2 : S1x128x128.BroadcastsInDim S16x128x128 (![0, 1, 2] : Fin 3 → Fin S16x128x128.rank)
  bcast_S128_S1x128x1_1 : S128.BroadcastsInDim S1x128x1 (![1] : Fin 1 → Fin S1x128x1.rank)
  bcast_S1x128x1_S16x128x128_0_1_2 : S1x128x1.BroadcastsInDim S16x128x128 (![0, 1, 2] : Fin 3 → Fin S16x128x128.rank)

variable [Facts]

def fn {F : FTy → Type} [FloatOps F] (main_arg0 : FVec F S16x128x2048 .f32) (main_arg1 : IVec S16 32) (main_arg2 : FVec F S384x128 .f32) (main_arg3 : FVec F S384x128 .f32) (main_arg4 : FVec F S384 .f32) (main_arg5 : FVec F S384 .f32) : IVec S16x128x128 1 :=
  let main_v0 : IVec S1 32 := (extractStridedSlice S1 ![0] · slices_S16_S1_0) main_arg1
  let main_v1 : IVec S_ 32 := shapeCast S_ main_v0 shapeCasts_S1_S_
  let main_v2 : IVec S16 32 := broadcastInDim S16 ![] bcast_S_S16 main_v1
  let main_v3 : IVec S16 1 := cmpi .sle main_arg1 main_v2
  let main_v4 : FVec F S128x128 .f32 := (extractStridedSlice S128x128 ![256, 0] · slices_S384x128_S128x128_256_0) main_arg3
  let main_v5 : FVec F S128x128 .f32 := Host.absf main_v4
  let main_cst : FVec F S_ .f32 := constant S_ .f32 0x7F800000#32
  let main_v6 : FVec F S128x128 .f32 := broadcastInDim S128x128 ![] bcast_S_S128x128 main_cst
  let main_v7 : IVec S128x128 1 := cmpf .olt main_v5 main_v6
  let main_v8 : FVec F S128 .f32 := (extractStridedSlice S128 ![256] · slices_S384_S128_256) main_arg5
  let main_v9 : FVec F S128 .f32 := Host.absf main_v8
  let main_cst_0 : FVec F S_ .f32 := constant S_ .f32 0x7F800000#32
  let main_v10 : FVec F S128 .f32 := broadcastInDim S128 ![] bcast_S_S128 main_cst_0
  let main_v11 : IVec S128 1 := cmpf .olt main_v9 main_v10
  let main_v12 : IVec S16x1x1 1 := broadcastInDim S16x1x1 ![0] bcast_S16_S16x1x1_0 main_v3
  let main_v13 : IVec S1x128x128 1 := broadcastInDim S1x128x128 ![1, 2] bcast_S128x128_S1x128x128_1_2 main_v7
  let main_v14 : IVec S16x128x128 1 := broadcastInDim S16x128x128 ![0, 1, 2] bcast_S16x1x1_S16x128x128_0_1_2 main_v12
  let main_v15 : IVec S16x128x128 1 := broadcastInDim S16x128x128 ![0, 1, 2] bcast_S1x128x128_S16x128x128_0_1_2 main_v13
  let main_v16 : IVec S16x128x128 1 := andi main_v14 main_v15
  let main_v17 : IVec S1x128x1 1 := broadcastInDim S1x128x1 ![1] bcast_S128_S1x128x1_1 main_v11
  let main_v18 : IVec S16x128x128 1 := broadcastInDim S16x128x128 ![0, 1, 2] bcast_S1x128x1_S16x128x128_0_1_2 main_v17
  let main_v19 : IVec S16x128x128 1 := andi main_v16 main_v18
  main_v19
-- ==== Kernel.lean ====
abbrev S16x128x2048 : Shape := ⟨3, ![16, 128, 2048]⟩
abbrev S16 : Shape := ⟨1, ![16]⟩
abbrev S384x128 : Shape := ⟨2, ![384, 128]⟩
abbrev S384 : Shape := ⟨1, ![384]⟩
abbrev S_ : Shape := ⟨0, ![]⟩
abbrev S256 : Shape := ⟨1, ![256]⟩
abbrev S128 : Shape := ⟨1, ![128]⟩
abbrev S128x384 : Shape := ⟨2, ![128, 384]⟩
abbrev S1x384 : Shape := ⟨2, ![1, 384]⟩
abbrev S1x128 : Shape := ⟨2, ![1, 128]⟩
abbrev S16x1 : Shape := ⟨2, ![16, 1]⟩
abbrev S16x128 : Shape := ⟨2, ![16, 128]⟩
abbrev S2048x16x128 : Shape := ⟨3, ![2048, 16, 128]⟩
abbrev S16x128x512 : Shape := ⟨3, ![16, 128, 512]⟩
abbrev S512x16x128 : Shape := ⟨3, ![512, 16, 128]⟩
abbrev S512x16x384 : Shape := ⟨3, ![512, 16, 384]⟩
abbrev S1 : Shape := ⟨1, ![1]⟩
abbrev S8192x128 : Shape := ⟨2, ![8192, 128]⟩
abbrev S8192x384 : Shape := ⟨2, ![8192, 384]⟩
abbrev S1x16x384 : Shape := ⟨3, ![1, 16, 384]⟩
abbrev S16x384 : Shape := ⟨2, ![16, 384]⟩
abbrev S1x16x128 : Shape := ⟨3, ![1, 16, 128]⟩

abbrev nBuf : Space → Nat
  | .hbm => 36
  | .vmem => 11
  | .smem => 1
  | _ => 0

abbrev bufTy : (tb : Table) → Fin (tcTables nBuf tb) → BufTy
  | .hbm, ⟨0, _⟩ => ⟨S16x128x2048, .f32⟩
  | .hbm, ⟨1, _⟩ => ⟨S384x128, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S_, .f32⟩
  | .hbm, ⟨6, _⟩ => ⟨S256, .f32⟩
  | .hbm, ⟨7, _⟩ => ⟨S_, .f32⟩
  | .hbm, ⟨8, _⟩ => ⟨S128, .f32⟩
  | .hbm, ⟨9, _⟩ => ⟨S384, .f32⟩
  | .hbm, ⟨10, _⟩ => ⟨S128x384, .f32⟩
  | .hbm, ⟨11, _⟩ => ⟨S1x384, .f32⟩
  | .hbm, ⟨12, _⟩ => ⟨S128x384, .f32⟩
  | .hbm, ⟨13, _⟩ => ⟨S128x384, .f32⟩
  | .hbm, ⟨14, _⟩ => ⟨S128x384, .bf16⟩
  | .hbm, ⟨15, _⟩ => ⟨S128x384, .f32⟩
  | .hbm, ⟨16, _⟩ => ⟨S1x384, .f32⟩
  | .hbm, ⟨17, _⟩ => ⟨S128x384, .f32⟩
  | .hbm, ⟨18, _⟩ => ⟨S128x384, .f32⟩
  | .hbm, ⟨19, _⟩ => ⟨S128x384, .bf16⟩
  | .hbm, ⟨20, _⟩ => ⟨S256, .f32⟩
  | .hbm, ⟨21, _⟩ => ⟨S_, .f32⟩
  | .hbm, ⟨22, _⟩ => ⟨S128, .f32⟩
  | .hbm, ⟨23, _⟩ => ⟨S384, .f32⟩
  | .hbm, ⟨24, _⟩ => ⟨S384, .f32⟩
  | .hbm, ⟨25, _⟩ => ⟨S384, .f32⟩
  | .hbm, ⟨26, _⟩ => ⟨S1x384, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S16x1, .i32⟩
  | .hbm, ⟨33, _⟩ => ⟨S16x128, .i32⟩
  | .hbm, ⟨34, _⟩ => ⟨S2048x16x128, .f32⟩
  | .hbm, ⟨35, _⟩ => ⟨S16x128x2048, .f32⟩
  | .local _ .vmem, ⟨0, _⟩ => ⟨S16x128x512, .f32⟩
  | .local _ .vmem, ⟨1, _⟩ => ⟨S16x128x512, .f32⟩
  | .local _ .vmem, ⟨2, _⟩ => ⟨S128x384, .bf16⟩
  | .local _ .vmem, ⟨3, _⟩ => ⟨S128x384, .bf16⟩
  | .local _ .vmem, ⟨4, _⟩ => ⟨S1x384, .f32⟩
  | .local _ .vmem, ⟨5, _⟩ => ⟨S1x128, .f32⟩
  | .local _ .vmem, ⟨6, _⟩ => ⟨S16x128, .i32⟩
  | .local _ .vmem, ⟨7, _⟩ => ⟨S512x16x128, .f32⟩
  | .local _ .vmem, ⟨8, _⟩ => ⟨S512x16x128, .f32⟩
  | .local _ .vmem, ⟨9, _⟩ => ⟨S16x128, .f32⟩
  | .local _ .vmem, ⟨10, _⟩ => ⟨S512x16x384, .f32⟩
  | .local _ .smem, ⟨0, _⟩ => ⟨S16, .i32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop (i : grid0.Coords) (v4 : BitVec 32) : Scf.Loop 32 :=
  let c0_i32_31 : BitVec 32 := 0#32
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c7_i32 : BitVec 32 := 7#32
  let v8 : BitVec 32 := Scalar.addi v7 c7_i32
  let c_m8_i32 : BitVec 32 := 4294967288#32
  let v9 : BitVec 32 := Scalar.andi v8 c_m8_i32
  let c512_i32_3 : BitVec 32 := 512#32
  let v10 : BitVec 32 := Scalar.minsi v9 c512_i32_3
  let c0_i32_24 : BitVec 32 := 0#32
  let v39 : BitVec 1 := Scalar.cmpi .sgt v10 c0_i32_24
  let v40 : BitVec 32 := Scalar.extui v39
  let c0_i32_25 : BitVec 32 := 0#32
  let v41 : BitVec 1 := Scalar.cmpi .slt v10 c0_i32_25
  let v42 : BitVec 32 := Scalar.extui v41
  let v43 : BitVec 32 := Scalar.subi v40 v42
  let c8_i32 : BitVec 32 := 8#32
  let c0_i32_26 : BitVec 32 := 0#32
  let v44 : BitVec 1 := Scalar.cmpi .sgt c8_i32 c0_i32_26
  let v45 : BitVec 32 := Scalar.extui v44
  let c0_i32_27 : BitVec 32 := 0#32
  let v46 : BitVec 1 := Scalar.cmpi .slt c8_i32 c0_i32_27
  let v47 : BitVec 32 := Scalar.extui v46
  let v48 : BitVec 32 := Scalar.subi v45 v47
  let v49 : BitVec 1 := Scalar.cmpi .ne v43 v48
  let v50 : BitVec 32 := Scalar.remsi v10 c8_i32
  let c0_i32_28 : BitVec 32 := 0#32
  let v51 : BitVec 1 := Scalar.cmpi .ne v50 c0_i32_28
  let v52 : BitVec 1 := Scalar.andi v49 v51
  let v38 : BitVec 32 := Scalar.divsi v10 c8_i32
  let c1_i32 : BitVec 32 := 1#32
  let v53 : BitVec 32 := Scalar.subi v38 c1_i32
  let v54 : BitVec 32 := Scalar.select v52 v53 v38
  let v56 : BitVec 32 := Scalar.subi v54 c0_i32_31
  let c1_i32_32 : BitVec 32 := 1#32
  let v58 : BitVec 32 := Scalar.divsi v56 c1_i32_32
  let v59 : BitVec 32 := Scalar.muli v58 c1_i32_32
  let v60 : BitVec 32 := Scalar.addi c0_i32_31 v59
  let c1_i32_33 : BitVec 32 := 1#32
  ⟨c0_i32_31, v60, c1_i32_33⟩
def k0_cond3 (i : grid0.Coords) (v4 : BitVec 32) : BitVec 1 :=
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c0_i32_6 : BitVec 32 := 0#32
  let v14 : BitVec 1 := Scalar.cmpi .sgt v7 c0_i32_6
  let v15 : BitVec 32 := Scalar.extui v14
  let c0_i32_7 : BitVec 32 := 0#32
  let v16 : BitVec 1 := Scalar.cmpi .ne v15 c0_i32_7
  v16

def k0_off1 (i : grid0.Coords) (v4 : BitVec 32) (k0_t1 : Fin (k0_t1_loop i v4).trips) (c0_i32_38 : BitVec 32) : Fin 3 → Nat :=
  let c8_i32_37 : BitVec 32 := 8#32
  let c0_i32_31 : BitVec 32 := 0#32
  let c1_i32_33 : BitVec 32 := 1#32
  let arg11 : BitVec 32 := Scf.iv c0_i32_31 c1_i32_33 k0_t1
  let v66 : BitVec 32 := Scalar.muli c8_i32_37 arg11
  let v67 : BitVec 32 := Scalar.addi v66 c0_i32_38
  let v68 : Index := Scalar.indexCast v67
  let c0_39 : Index := 0#32
  let c0_40 : Index := 0#32
  ![v68.toNat, 0, 0]
def k0_off2 (i : grid0.Coords) (v4 : BitVec 32) (k0_t1 : Fin (k0_t1_loop i v4).trips) (c0_i32_38 : BitVec 32) : Fin 3 → Nat :=
  let c8_i32_37 : BitVec 32 := 8#32
  let c0_i32_31 : BitVec 32 := 0#32
  let c1_i32_33 : BitVec 32 := 1#32
  let arg11 : BitVec 32 := Scf.iv c0_i32_31 c1_i32_33 k0_t1
  let v66 : BitVec 32 := Scalar.muli c8_i32_37 arg11
  let v67 : BitVec 32 := Scalar.addi v66 c0_i32_38
  let v108 : Index := Scalar.indexCast v67
  let c0_47 : Index := 0#32
  let c0_48 : Index := 0#32
  ![v108.toNat, 0, 0]
@[reducible] def k0_t2_loop (i : grid0.Coords) (v4 : BitVec 32) : Scf.Loop 32 :=
  let c0_i32_31 : BitVec 32 := 0#32
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c7_i32 : BitVec 32 := 7#32
  let v8 : BitVec 32 := Scalar.addi v7 c7_i32
  let c_m8_i32 : BitVec 32 := 4294967288#32
  let v9 : BitVec 32 := Scalar.andi v8 c_m8_i32
  let c512_i32_3 : BitVec 32 := 512#32
  let v10 : BitVec 32 := Scalar.minsi v9 c512_i32_3
  let c0_i32_24 : BitVec 32 := 0#32
  let v39 : BitVec 1 := Scalar.cmpi .sgt v10 c0_i32_24
  let v40 : BitVec 32 := Scalar.extui v39
  let c0_i32_25 : BitVec 32 := 0#32
  let v41 : BitVec 1 := Scalar.cmpi .slt v10 c0_i32_25
  let v42 : BitVec 32 := Scalar.extui v41
  let v43 : BitVec 32 := Scalar.subi v40 v42
  let c8_i32 : BitVec 32 := 8#32
  let c0_i32_26 : BitVec 32 := 0#32
  let v44 : BitVec 1 := Scalar.cmpi .sgt c8_i32 c0_i32_26
  let v45 : BitVec 32 := Scalar.extui v44
  let c0_i32_27 : BitVec 32 := 0#32
  let v46 : BitVec 1 := Scalar.cmpi .slt c8_i32 c0_i32_27
  let v47 : BitVec 32 := Scalar.extui v46
  let v48 : BitVec 32 := Scalar.subi v45 v47
  let v49 : BitVec 1 := Scalar.cmpi .ne v43 v48
  let v50 : BitVec 32 := Scalar.remsi v10 c8_i32
  let c0_i32_28 : BitVec 32 := 0#32
  let v51 : BitVec 1 := Scalar.cmpi .ne v50 c0_i32_28
  let v52 : BitVec 1 := Scalar.andi v49 v51
  let v38 : BitVec 32 := Scalar.divsi v10 c8_i32
  let c1_i32 : BitVec 32 := 1#32
  let v53 : BitVec 32 := Scalar.subi v38 c1_i32
  let v54 : BitVec 32 := Scalar.select v52 v53 v38
  let v56 : BitVec 32 := Scalar.subi v54 c0_i32_31
  let c1_i32_32 : BitVec 32 := 1#32
  let v58 : BitVec 32 := Scalar.divsi v56 c1_i32_32
  let v59 : BitVec 32 := Scalar.muli v58 c1_i32_32
  let v60 : BitVec 32 := Scalar.addi c0_i32_31 v59
  let v57 : BitVec 32 := Scalar.addi c0_i32_31 v56
  let c1_i32_34 : BitVec 32 := 1#32
  ⟨v60, v57, c1_i32_34⟩
def k0_off3 (i : grid0.Coords) (v4 : BitVec 32) (k0_t2 : Fin (k0_t2_loop i v4).trips) (c0_i32_38 : BitVec 32) : Fin 3 → Nat :=
  let c8_i32_37 : BitVec 32 := 8#32
  let c0_i32_31 : BitVec 32 := 0#32
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c7_i32 : BitVec 32 := 7#32
  let v8 : BitVec 32 := Scalar.addi v7 c7_i32
  let c_m8_i32 : BitVec 32 := 4294967288#32
  let v9 : BitVec 32 := Scalar.andi v8 c_m8_i32
  let c512_i32_3 : BitVec 32 := 512#32
  let v10 : BitVec 32 := Scalar.minsi v9 c512_i32_3
  let c0_i32_24 : BitVec 32 := 0#32
  let v39 : BitVec 1 := Scalar.cmpi .sgt v10 c0_i32_24
  let v40 : BitVec 32 := Scalar.extui v39
  let c0_i32_25 : BitVec 32 := 0#32
  let v41 : BitVec 1 := Scalar.cmpi .slt v10 c0_i32_25
  let v42 : BitVec 32 := Scalar.extui v41
  let v43 : BitVec 32 := Scalar.subi v40 v42
  let c8_i32 : BitVec 32 := 8#32
  let c0_i32_26 : BitVec 32 := 0#32
  let v44 : BitVec 1 := Scalar.cmpi .sgt c8_i32 c0_i32_26
  let v45 : BitVec 32 := Scalar.extui v44
  let c0_i32_27 : BitVec 32 := 0#32
  let v46 : BitVec 1 := Scalar.cmpi .slt c8_i32 c0_i32_27
  let v47 : BitVec 32 := Scalar.extui v46
  let v48 : BitVec 32 := Scalar.subi v45 v47
  let v49 : BitVec 1 := Scalar.cmpi .ne v43 v48
  let v50 : BitVec 32 := Scalar.remsi v10 c8_i32
  let c0_i32_28 : BitVec 32 := 0#32
  let v51 : BitVec 1 := Scalar.cmpi .ne v50 c0_i32_28
  let v52 : BitVec 1 := Scalar.andi v49 v51
  let v38 : BitVec 32 := Scalar.divsi v10 c8_i32
  let c1_i32 : BitVec 32 := 1#32
  let v53 : BitVec 32 := Scalar.subi v38 c1_i32
  let v54 : BitVec 32 := Scalar.select v52 v53 v38
  let v56 : BitVec 32 := Scalar.subi v54 c0_i32_31
  let c1_i32_32 : BitVec 32 := 1#32
  let v58 : BitVec 32 := Scalar.divsi v56 c1_i32_32
  let v59 : BitVec 32 := Scalar.muli v58 c1_i32_32
  let v60 : BitVec 32 := Scalar.addi c0_i32_31 v59
  let c1_i32_34 : BitVec 32 := 1#32
  let arg11 : BitVec 32 := Scf.iv v60 c1_i32_34 k0_t2
  let v66 : BitVec 32 := Scalar.muli c8_i32_37 arg11
  let v67 : BitVec 32 := Scalar.addi v66 c0_i32_38
  let v68 : Index := Scalar.indexCast v67
  let c0_39 : Index := 0#32
  let c0_40 : Index := 0#32
  ![v68.toNat, 0, 0]
def k0_off4 (i : grid0.Coords) (v4 : BitVec 32) (k0_t2 : Fin (k0_t2_loop i v4).trips) (c0_i32_38 : BitVec 32) : Fin 3 → Nat :=
  let c8_i32_37 : BitVec 32 := 8#32
  let c0_i32_31 : BitVec 32 := 0#32
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c7_i32 : BitVec 32 := 7#32
  let v8 : BitVec 32 := Scalar.addi v7 c7_i32
  let c_m8_i32 : BitVec 32 := 4294967288#32
  let v9 : BitVec 32 := Scalar.andi v8 c_m8_i32
  let c512_i32_3 : BitVec 32 := 512#32
  let v10 : BitVec 32 := Scalar.minsi v9 c512_i32_3
  let c0_i32_24 : BitVec 32 := 0#32
  let v39 : BitVec 1 := Scalar.cmpi .sgt v10 c0_i32_24
  let v40 : BitVec 32 := Scalar.extui v39
  let c0_i32_25 : BitVec 32 := 0#32
  let v41 : BitVec 1 := Scalar.cmpi .slt v10 c0_i32_25
  let v42 : BitVec 32 := Scalar.extui v41
  let v43 : BitVec 32 := Scalar.subi v40 v42
  let c8_i32 : BitVec 32 := 8#32
  let c0_i32_26 : BitVec 32 := 0#32
  let v44 : BitVec 1 := Scalar.cmpi .sgt c8_i32 c0_i32_26
  let v45 : BitVec 32 := Scalar.extui v44
  let c0_i32_27 : BitVec 32 := 0#32
  let v46 : BitVec 1 := Scalar.cmpi .slt c8_i32 c0_i32_27
  let v47 : BitVec 32 := Scalar.extui v46
  let v48 : BitVec 32 := Scalar.subi v45 v47
  let v49 : BitVec 1 := Scalar.cmpi .ne v43 v48
  let v50 : BitVec 32 := Scalar.remsi v10 c8_i32
  let c0_i32_28 : BitVec 32 := 0#32
  let v51 : BitVec 1 := Scalar.cmpi .ne v50 c0_i32_28
  let v52 : BitVec 1 := Scalar.andi v49 v51
  let v38 : BitVec 32 := Scalar.divsi v10 c8_i32
  let c1_i32 : BitVec 32 := 1#32
  let v53 : BitVec 32 := Scalar.subi v38 c1_i32
  let v54 : BitVec 32 := Scalar.select v52 v53 v38
  let v56 : BitVec 32 := Scalar.subi v54 c0_i32_31
  let c1_i32_32 : BitVec 32 := 1#32
  let v58 : BitVec 32 := Scalar.divsi v56 c1_i32_32
  let v59 : BitVec 32 := Scalar.muli v58 c1_i32_32
  let v60 : BitVec 32 := Scalar.addi c0_i32_31 v59
  let c1_i32_34 : BitVec 32 := 1#32
  let arg11 : BitVec 32 := Scf.iv v60 c1_i32_34 k0_t2
  let v66 : BitVec 32 := Scalar.muli c8_i32_37 arg11
  let v67 : BitVec 32 := Scalar.addi v66 c0_i32_38
  let v108 : Index := Scalar.indexCast v67
  let c0_47 : Index := 0#32
  let c0_48 : Index := 0#32
  ![v108.toNat, 0, 0]

def k0_chk1 (i : grid0.Coords) (v4 : BitVec 32) : Prop :=
  (∀ (k0_h3 : k0_cond3 i v4 = 1#1), (k0_t1_loop i v4).OK) ∧
  (∀ k0_t1 : Fin (k0_t1_loop i v4).trips, ∀ (k0_h3 : k0_cond3 i v4 = 1#1), ∀ (r : Fin 8), ∀ a, (k0_off1 i v4 k0_t1 (BitVec.ofNat 32 r.val)) a + S1x16x384.size a ≤ S512x16x384.size a) ∧
  (∀ k0_t1 : Fin (k0_t1_loop i v4).trips, ∀ (k0_h3 : k0_cond3 i v4 = 1#1), ∀ (r : Fin 8), ∀ a, (k0_off2 i v4 k0_t1 (BitVec.ofNat 32 r.val)) a + S1x16x128.size a ≤ S512x16x128.size a) ∧
  (∀ (k0_h3 : k0_cond3 i v4 = 1#1), (k0_t2_loop i v4).OK) ∧
  (∀ k0_t2 : Fin (k0_t2_loop i v4).trips, ∀ (k0_h3 : k0_cond3 i v4 = 1#1), ∀ (r : Fin 8), ∀ a, (k0_off3 i v4 k0_t2 (BitVec.ofNat 32 r.val)) a + S1x16x384.size a ≤ S512x16x384.size a) ∧
  (∀ k0_t2 : Fin (k0_t2_loop i v4).trips, ∀ (k0_h3 : k0_cond3 i v4 = 1#1), ∀ (r : Fin 8), ∀ a, (k0_off4 i v4 k0_t2 (BitVec.ofNat 32 r.val)) a + S1x16x128.size a ≤ S512x16x128.size a)
theorem k0_t1_ok : ∀ (i : grid0.Coords) (v4 : BitVec 32) (k0_hw1 : k0_chk1 i v4), ∀ (k0_h3 : k0_cond3 i v4 = 1#1), (k0_t1_loop i v4).OK := fun i v4 k0_hw1 k0_h3 => k0_hw1.1 k0_h3
theorem k0_off1_inb : ∀ (i : grid0.Coords) (v4 : BitVec 32) (k0_hw1 : k0_chk1 i v4) (k0_t1 : Fin (k0_t1_loop i v4).trips), ∀ (k0_h3 : k0_cond3 i v4 = 1#1), ∀ (r : Fin 8), ∀ a, (k0_off1 i v4 k0_t1 (BitVec.ofNat 32 r.val)) a + S1x16x384.size a ≤ S512x16x384.size a := fun i v4 k0_hw1 k0_t1 k0_h3 r => k0_hw1.2.1 k0_t1 k0_h3 r
theorem k0_off2_inb : ∀ (i : grid0.Coords) (v4 : BitVec 32) (k0_hw1 : k0_chk1 i v4) (k0_t1 : Fin (k0_t1_loop i v4).trips), ∀ (k0_h3 : k0_cond3 i v4 = 1#1), ∀ (r : Fin 8), ∀ a, (k0_off2 i v4 k0_t1 (BitVec.ofNat 32 r.val)) a + S1x16x128.size a ≤ S512x16x128.size a := fun i v4 k0_hw1 k0_t1 k0_h3 r => k0_hw1.2.2.1 k0_t1 k0_h3 r
theorem k0_t2_ok : ∀ (i : grid0.Coords) (v4 : BitVec 32) (k0_hw1 : k0_chk1 i v4), ∀ (k0_h3 : k0_cond3 i v4 = 1#1), (k0_t2_loop i v4).OK := fun i v4 k0_hw1 k0_h3 => k0_hw1.2.2.2.1 k0_h3
theorem k0_off3_inb : ∀ (i : grid0.Coords) (v4 : BitVec 32) (k0_hw1 : k0_chk1 i v4) (k0_t2 : Fin (k0_t2_loop i v4).trips), ∀ (k0_h3 : k0_cond3 i v4 = 1#1), ∀ (r : Fin 8), ∀ a, (k0_off3 i v4 k0_t2 (BitVec.ofNat 32 r.val)) a + S1x16x384.size a ≤ S512x16x384.size a := fun i v4 k0_hw1 k0_t2 k0_h3 r => k0_hw1.2.2.2.2.1 k0_t2 k0_h3 r
theorem k0_off4_inb : ∀ (i : grid0.Coords) (v4 : BitVec 32) (k0_hw1 : k0_chk1 i v4) (k0_t2 : Fin (k0_t2_loop i v4).trips), ∀ (k0_h3 : k0_cond3 i v4 = 1#1), ∀ (r : Fin 8), ∀ a, (k0_off4 i v4 k0_t2 (BitVec.ofNat 32 r.val)) a + S1x16x128.size a ≤ S512x16x128.size a := fun i v4 k0_hw1 k0_t2 k0_h3 r => k0_hw1.2.2.2.2.2 k0_t2 k0_h3 r

def k0_cond2 (i : grid0.Coords) (v4 : BitVec 32) : BitVec 1 :=
  let c512_i32_2 : BitVec 32 := 512#32
  let c0_i32_1 : BitVec 32 := 0#32
  let arg0 : BitVec 32 := BitVec.ofNat 32 (i 0).val
  let c512_i32 : BitVec 32 := 512#32
  let v3 : BitVec 32 := Scalar.muli arg0 c512_i32
  let v5 : BitVec 32 := Scalar.subi v4 v3
  let v6 : BitVec 32 := Scalar.maxsi c0_i32_1 v5
  let v7 : BitVec 32 := Scalar.minsi c512_i32_2 v6
  let c512_i32_4 : BitVec 32 := 512#32
  let v11 : BitVec 1 := Scalar.cmpi .slt v7 c512_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x128x2048 : Shape := ⟨3, ![16, 128, 2048]⟩
abbrev S16 : Shape := ⟨1, ![16]⟩
abbrev S384x128 : Shape := ⟨2, ![384, 128]⟩
abbrev S384 : Shape := ⟨1, ![384]⟩
abbrev S16x2048x128 : Shape := ⟨3, ![16, 2048, 128]⟩
abbrev S16x2048x384 : Shape := ⟨3, ![16, 2048, 384]⟩
abbrev S1x1x384 : Shape := ⟨3, ![1, 1, 384]⟩
abbrev S_ : Shape := ⟨0, ![]⟩
abbrev S16x128 : Shape := ⟨2, ![16, 128]⟩
abbrev S2048x16x384 : Shape := ⟨3, ![2048, 16, 384]⟩
abbrev S2048x16x128 : Shape := ⟨3, ![2048, 16, 128]⟩
abbrev S1x16x384 : Shape := ⟨3, ![1, 16, 384]⟩
abbrev S16x384 : Shape := ⟨2, ![16, 384]⟩
abbrev S128x384 : Shape := ⟨2, ![128, 384]⟩
abbrev S1x384 : Shape := ⟨2, ![1, 384]⟩
abbrev S1x16x128 : Shape := ⟨3, ![1, 16, 128]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S16x128x2048, .f32⟩
  | .hbm, ⟨1, _⟩ => ⟨S16, .i32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S16x2048x128, .f32⟩
  | .hbm, ⟨7, _⟩ => ⟨S16x2048x384, .f32⟩
  | .hbm, ⟨8, _⟩ => ⟨S1x1x384, .f32⟩
  | .hbm, ⟨9, _⟩ => ⟨S16x2048x384, .f32⟩
  | .hbm, ⟨10, _⟩ => ⟨S16x2048x384, .f32⟩
  | .hbm, ⟨11, _⟩ => ⟨S_, .f32⟩
  | .hbm, ⟨12, _⟩ => ⟨S16x128, .f32⟩
  | .hbm, ⟨13, _⟩ => ⟨S2048x16x384, .f32⟩
  | .hbm, ⟨14, _⟩ => ⟨S_, .f32⟩
  | .hbm, ⟨15, _⟩ => ⟨S2048x16x128, .f32⟩
  | .hbm, ⟨16, _⟩ => ⟨S_, .i32⟩
  | .hbm, ⟨17, _⟩ => ⟨S2048x16x384, .f32⟩
  | .hbm, ⟨18, _⟩ => ⟨S384x128, .f32⟩
  | .hbm, ⟨19, _⟩ => ⟨S384, .f32⟩
  | .hbm, ⟨20, _⟩ => ⟨S_, .i32⟩
  | .hbm, ⟨21, _⟩ => ⟨S16x128, .f32⟩
  | .hbm, ⟨22, _⟩ => ⟨S2048x16x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S1x16x384, .f32⟩
  | .hbm, ⟨28, _⟩ => ⟨S16x384, .f32⟩
  | .hbm, ⟨29, _⟩ => ⟨S128x384, .f32⟩
  | .hbm, ⟨30, _⟩ => ⟨S16x384, .f32⟩
  | .hbm, ⟨31, _⟩ => ⟨S1x384, .f32⟩
  | .hbm, ⟨32, _⟩ => ⟨S16x384, .f32⟩
  | .hbm, ⟨33, _⟩ => ⟨S16x384, .f32⟩
  | .hbm, ⟨34, _⟩ => ⟨S16x128, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S_, .f32⟩
  | .hbm, ⟨44, _⟩ => ⟨S16x128, .f32⟩
  | .hbm, ⟨45, _⟩ => ⟨S16x128, .f32⟩
  | .hbm, ⟨46, _⟩ => ⟨S_, .f32⟩
  | .hbm, ⟨47, _⟩ => ⟨S16x128, .f32⟩
  | .hbm, ⟨48, _⟩ => ⟨S16x128, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S_, .f32⟩
  | .hbm, ⟨53, _⟩ => ⟨S16x128, .f32⟩
  | .hbm, ⟨54, _⟩ => ⟨S16x128, .f32⟩
  | .hbm, ⟨55, _⟩ => ⟨S_, .f32⟩
  | .hbm, ⟨56, _⟩ => ⟨S16x128, .f32⟩
  | .hbm, ⟨57, _⟩ => ⟨S16x128, .f32⟩
  | .hbm, ⟨58, _⟩ => ⟨S16x128, .f32⟩
  | .hbm, ⟨59, _⟩ => ⟨S16x128, .f32⟩
  | .hbm, ⟨60, _⟩ => ⟨S16x128, .f32⟩
  | .hbm, ⟨61, _⟩ => ⟨S_, .f32⟩
  | .hbm, ⟨62, _⟩ => ⟨S16x128, .f32⟩
  | .hbm, ⟨63, _⟩ => ⟨S16x128, .f32⟩
  | .hbm, ⟨64, _⟩ => ⟨S16x128, .f32⟩
  | .hbm, ⟨65, _⟩ => ⟨S16x128, .f32⟩
  | .hbm, ⟨66, _⟩ => ⟨S16x128, .f32⟩
  | .hbm, ⟨67, _⟩ => ⟨S1x16x128, .f32⟩
  | .hbm, ⟨68, _⟩ => ⟨S_, .i32⟩
  | .hbm, ⟨69, _⟩ => ⟨S_, .i32⟩
  | .hbm, ⟨70, _⟩ => ⟨S2048x16x128, .f32⟩
  | .hbm, ⟨71, _⟩ => ⟨S_, .i32⟩
  | .hbm, ⟨72, _⟩ => ⟨S_, .i32⟩
  | .hbm, ⟨73, _⟩ => ⟨S16x2048x128, .f32⟩
  | .hbm, ⟨74, _⟩ => ⟨S2048, .i32⟩
  | .hbm, ⟨75, _⟩ => ⟨S1x2048, .i32⟩
  | .hbm, ⟨76, _⟩ => ⟨S16x1, .i32⟩
  | .hbm, ⟨77, _⟩ => ⟨S16x2048, .i32⟩
  | .hbm, ⟨78, _⟩ => ⟨S16x2048, .i32⟩
  | .hbm, ⟨79, _⟩ => ⟨S16x2048, .i1⟩
  | .hbm, ⟨80, _⟩ => ⟨S16x2048x1, .i1⟩
  | .hbm, ⟨81, _⟩ => ⟨S_, .f32⟩
  | .hbm, ⟨82, _⟩ => ⟨S_, .f32⟩
  | .hbm, ⟨83, _⟩ => ⟨S16x2048x128, .i1⟩
  | .hbm, ⟨84, _⟩ => ⟨S16x2048x128, .f32⟩
  | .hbm, ⟨85, _⟩ => ⟨S16x2048x128, .f32⟩
  | .hbm, ⟨86, _⟩ => ⟨S16x128x2048, .f32⟩
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_while0c_c_7 : Ref sig .tc := ⟨.hbm, 23, rfl⟩
abbrev main_while0c_v19 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_v0 : Ref sig .tc := ⟨.hbm, 27, rfl⟩
abbrev main_while0b_v19 : Ref sig .tc := ⟨.hbm, 28, rfl⟩
abbrev main_while0b_v20 : Ref sig .tc := ⟨.hbm, 29, rfl⟩
abbrev main_while0b_v21 : Ref sig .tc := ⟨.hbm, 30, rfl⟩
abbrev main_while0b_v22 : Ref sig .tc := ⟨.hbm, 31, rfl⟩
abbrev main_while0b_v23 : Ref sig .tc := ⟨.hbm, 32, rfl⟩
abbrev main_while0b_v24 : Ref sig .tc := ⟨.hbm, 33, rfl⟩
abbrev main_while0b_v25 : Ref sig .tc := ⟨.hbm, 34, rfl⟩
abbrev main_while0b_v26 : Ref sig .tc := ⟨.hbm, 35, rfl⟩
abbrev main_while0b_v27 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_v31 : Ref sig .tc := ⟨.hbm, 40, rfl⟩
abbrev main_while0b_v32 : Ref sig .tc := ⟨.hbm, 41, rfl⟩
abbrev main_while0b_v33 : Ref sig .tc := ⟨.hbm, 42, rfl⟩
abbrev main_while0b_cst_7 : Ref sig .tc := ⟨.hbm, 43, rfl⟩
abbrev main_while0b_v34 : Ref sig .tc := ⟨.hbm, 44, rfl⟩
abbrev main_while0b_v35 : Ref sig .tc := ⟨.hbm, 45, rfl⟩
abbrev main_while0b_cst_8 : Ref sig .tc := ⟨.hbm, 46, rfl⟩
abbrev main_while0b_v36 : Ref sig .tc := ⟨.hbm, 47, rfl⟩
abbrev main_while0b_v37 : Ref sig .tc := ⟨.hbm, 48, rfl⟩
abbrev main_while0b_v38 : Ref sig .tc := ⟨.hbm, 49, rfl⟩
abbrev main_while0b_v39 : Ref sig .tc := ⟨.hbm, 50, rfl⟩
abbrev main_while0b_v40 : Ref sig .tc := ⟨.hbm, 51, rfl⟩
abbrev main_while0b_cst_9 : Ref sig .tc := ⟨.hbm, 52, rfl⟩
abbrev main_while0b_v41 : Ref sig .tc := ⟨.hbm, 53, rfl⟩
abbrev main_while0b_v42 : Ref sig .tc := ⟨.hbm, 54, rfl⟩
abbrev main_while0b_cst_10 : Ref sig .tc := ⟨.hbm, 55, rfl⟩
abbrev main_while0b_v43 : Ref sig .tc := ⟨.hbm, 56, rfl⟩
abbrev main_while0b_v44 : Ref sig .tc := ⟨.hbm, 57, rfl⟩
abbrev main_while0b_v45 : Ref sig .tc := ⟨.hbm, 58, rfl⟩
abbrev main_while0b_v46 : Ref sig .tc := ⟨.hbm, 59, rfl⟩
abbrev main_while0b_v47 : Ref sig .tc := ⟨.hbm, 60, rfl⟩
abbrev main_while0b_cst_11 : Ref sig .tc := ⟨.hbm, 61, rfl⟩
abbrev main_while0b_v48 : Ref sig .tc := ⟨.hbm, 62, rfl⟩
abbrev main_while0b_v49 : Ref sig .tc := ⟨.hbm, 63, rfl⟩
abbrev main_while0b_v50 : Ref sig .tc := ⟨.hbm, 64, rfl⟩
abbrev main_while0b_v51 : Ref sig .tc := ⟨.hbm, 65, rfl⟩
abbrev main_while0b_v52 : Ref sig .tc := ⟨.hbm, 66, rfl⟩
abbrev main_while0b_call1_v0 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_v53 : Ref sig .tc := ⟨.hbm, 70, rfl⟩
abbrev main_while0b_c_12 : Ref sig .tc := ⟨.hbm, 71, rfl⟩
abbrev main_while0b_v54 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_cst_1 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v17 : Ref sig .tc := ⟨.hbm, 85, rfl⟩
abbrev main_v18 : Ref sig .tc := ⟨.hbm, 86, rfl⟩

abbrev nD : Nat := 1
abbrev τ : Topo := Topo.v7x

variable {F : FTy → Type} [FloatOps F]

abbrev main_while0_count : Scf.Loop 32 := ⟨0#32, 2048#32, 1#32⟩
-- ==== Proof.Val.Gru.lean ====
/- The gated recurrent step over the extended reals: the textbook form, the form with hyperbolic tangents and halved
   operands, and that they agree where the state and the candidate's recurrent part are real. -/
module

public import Idealize.ShloMosaic.PureOps.Ideal
public import Idealize.ShloMosaic.Lib.IdealHost
public import Mathlib.Data.EReal.Operations

@[expose] public section

noncomputable section

namespace Cert.Gru

open Idealize.ShloMosaic
open scoped BigOperators

/-- One half. -/
def half : EReal := ((1 / 2 : ℝ) : EReal)

/-- The word of one half denotes it. -/
theorem ofBits_half : Ideal.ofBits .f32 0x3F000000#32 = half := by
  unfold half
  simp [Ideal.ofBits, Ideal.ieee, -EReal.coe_mul]; norm_num

theorem half_nonneg : 0 ≤ half := EReal.coe_nonneg.mpr (by norm_num)
theorem half_ne_top : half ≠ ⊤ := EReal.coe_ne_top _

/-- Halving distributes over a sum of any two extended reals, -/
theorem half_add (a b : EReal) : half * (a + b) = half * a + half * b :=
  EReal.left_distrib_of_nonneg_of_ne_top half_nonneg half_ne_top a b

/-- and over any finite sum. -/
theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- An extended real that is a real number. -/
def IsReal (a : EReal) : Prop := ∃ r : ℝ, a = (r : EReal)

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The hyperbolic tangent is a real number. -/
theorem isReal_tanh (a : EReal) : IsReal (Ideal.tanh a) := by
  induction a with
  | bot => exact ⟨-1, by simp⟩
  | coe r => exact ⟨Real.tanh r, rfl⟩
  | top => exact ⟨1, by simp⟩

/-- The logistic function through the hyperbolic tangent of half its argument. -/
theorem logistic_eq (a : EReal) : ∃ s : ℝ, Ideal.logistic a = (s : EReal) ∧ Ideal.tanh (half * a) = ((2 * s - 1 : ℝ) : EReal) := by
  induction a with
  | bot =>
    refine ⟨0, by simp, ?_⟩
    rw [show half * ⊥ = ⊥ from EReal.coe_mul_bot_of_pos (by norm_num), Ideal.tanh_bot]
    norm_num
  | coe r =>
    refine ⟨(1 + Real.exp (-r))⁻¹, Ideal.logistic_coe r, ?_⟩
    rw [half, ← EReal.coe_mul, Ideal.tanh_coe]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have hp := Real.exp_pos (1 / 2 * r)
    have hq := Real.exp_pos (-(1 / 2 * r))
    rw [h1]
    generalize Real.exp (1 / 2 * r) = p at *
    generalize Real.exp (-(1 / 2 * r)) = q at *
    have hs : 0 < p + q := by positivity
    have hs' : 0 < 1 + q * q := by positivity
    field_simp
    linear_combination (2 : ℝ) * q * h2
  | top =>
    refine ⟨1, by simp, ?_⟩
    rw [show half * ⊤ = ⊤ from EReal.coe_mul_top_of_pos (by norm_num), Ideal.tanh_top]
    norm_num

/-- The textbook step: the reset and update gates' pre-activations `ar`, `az`, the candidate's input part `xn` and
    recurrent part `hn`, the state `h`. -/
def cell (ar az xn hn h : EReal) : EReal :=
  (1 - Ideal.logistic az) * Ideal.tanh (xn + Ideal.logistic ar * hn) + Ideal.logistic az * h

/-- The step through hyperbolic tangents: `ar`, `az` the halved pre-activations, `hn` half the candidate's recurrent part. -/
def cellT (ar az xn hn h : EReal) : EReal :=
  Ideal.tanh ((xn + hn) + Ideal.tanh ar * hn) * (half - half * Ideal.tanh az) + (half + half * Ideal.tanh az) * h

/-- The new state is a real number. -/
theorem isReal_cell (ar az xn hn h : EReal) (hh : IsReal h) : IsReal (cell ar az xn hn h) := by
  obtain ⟨z, hz, -⟩ := logistic_eq az
  have h1 : IsReal (1 - Ideal.logistic az) := ⟨1 - z, by rw [hz, EReal.coe_sub, EReal.coe_one]⟩
  exact (h1.mul (isReal_tanh _)).add (IsReal.mul ⟨z, hz⟩ hh)

/-- The two forms agree. -/
theorem cellT_eq (ar az xn hn h : EReal) (hhn : IsReal hn) (hh : IsReal h) :
    cellT (half * ar) (half * az) xn (half * hn) h = cell ar az xn hn h := by
  obtain ⟨r, hr, htr⟩ := logistic_eq ar
  obtain ⟨z, hz, htz⟩ := logistic_eq az
  obtain ⟨n, rfl⟩ := hhn
  obtain ⟨s, rfl⟩ := hh
  unfold cellT cell
  rw [hr, htr, hz, htz]
  have e1 : (xn + half * (n : EReal)) + ((2 * r - 1 : ℝ) : EReal) * (half * (n : EReal)) = xn + (r : EReal) * (n : EReal) := by
    rw [half, ← EReal.coe_mul, ← EReal.coe_mul, ← EReal.coe_mul, add_assoc, ← EReal.coe_add]
    congr 2; ring
  rw [e1]
  obtain ⟨c, hc⟩ := isReal_tanh (xn + (r : EReal) * (n : EReal))
  rw [hc, half, ← EReal.coe_one]
  simp only [← EReal.coe_mul, ← EReal.coe_sub, ← EReal.coe_add]
  congr 1; ring

/-! ## The whole recurrence -/

/-- Row `k` of gate `q` (reset, update, candidate) among the stacked rows. -/
def gate (q : Fin 3) (k : Fin 128) : Fin 384 := ⟨128 * q.val + k.val, by omega⟩

section Recurrence

variable (x : Fin 16 → Fin 128 → Fin 2048 → EReal) (wi wh : Fin 384 → Fin 128 → EReal) (bi bh : Fin 384 → EReal)

/-- The projected input at time `t`. -/
def xin (t : Fin 2048) (b : Fin 16) (g : Fin 384) : EReal := (∑ c : Fin 128, x b c t * wi g c) + bi g

/-- The projected state. -/
def rec (h : Fin 16 → Fin 128 → EReal) (b : Fin 16) (g : Fin 384) : EReal := (∑ k : Fin 128, h b k * wh g k) + bh g

/-- One step from a row of projected inputs. -/
def stepOf (xi : Fin 16 → Fin 384 → EReal) (h : Fin 16 → Fin 128 → EReal) (b : Fin 16) (k : Fin 128) : EReal :=
  cell (xi b (gate 0 k) + rec wh bh h b (gate 0 k)) (xi b (gate 1 k) + rec wh bh h b (gate 1 k)) (xi b (gate 2 k)) (rec wh bh h b (gate 2 k)) (h b k)

/-- The state before step `n`. -/
def state : ℕ → Fin 16 → Fin 128 → EReal
  | 0 => fun _ _ => 0
  | n + 1 => stepOf wh bh (xin x wi bi (Fin.ofNat 2048 n)) (state n)

theorem isReal_state : ∀ (n : ℕ) (b : Fin 16) (k : Fin 128), IsReal (state x wi wh bi bh n b k)
  | 0, _, _ => ⟨0, rfl⟩
  | n + 1, b, k => isReal_cell _ _ _ _ _ (isReal_state n b k)

/-- The factor a stacked row is scaled by: one half for the two gates, one for the candidate. -/
def scale (g : Fin 384) : EReal := if g.val < 256 then half else 1

/-- The bias folded into the projected input: both biases for the two gates, the input's alone for the candidate. -/
def bias (g : Fin 384) : EReal := (bi g + if g.val < 256 then bh g else 0) * scale g

/-- The scaled projected input. -/
def xinT (t : Fin 2048) (b : Fin 16) (g : Fin 384) : EReal := (∑ c : Fin 128, x b c t * (wi g c * scale g)) + bias bi bh g

/-- The scaled projected state, without a bias. -/
def recT (h : Fin 16 → Fin 128 → EReal) (b : Fin 16) (g : Fin 384) : EReal := ∑ k : Fin 128, h b k * (wh g k * scale g)

/-- One step in the other form. -/
def stepT (xi : Fin 16 → Fin 384 → EReal) (h : Fin 16 → Fin 128 → EReal) (b : Fin 16) (k : Fin 128) : EReal :=
  cellT (xi b (gate 0 k) + recT wh h b (gate 0 k)) (xi b (gate 1 k) + recT wh h b (gate 1 k)) (xi b (gate 2 k))
    (half * recT wh h b (gate 2 k) + half * bh (gate 2 k)) (h b k)

theorem scale_lo {g : Fin 384} (hg : g.val < 256) : scale g = half := if_pos hg
theorem scale_hi (k : Fin 128) : scale (gate 2 k) = 1 := if_neg (by simp [gate])

/-- On a gate's row the scaled pre-activation is half the unscaled one. -/
theorem pre_half (t : Fin 2048) (h : Fin 16 → Fin 128 → EReal) (b : Fin 16) {g : Fin 384} (hg : g.val < 256) :
    xinT x wi bi bh t b g + recT wh h b g = half * (xin x wi bi t b g + rec wh bh h b g) := by
  unfold xinT recT xin rec bias
  simp only [scale_lo hg, if_pos hg]
  have e1 : ∀ c, x b c t * (wi g c * half) = half * (x b c t * wi g c) := fun c => by
    rw [← mul_assoc, mul_comm]
  have e2 : ∀ k, h b k * (wh g k * half) = half * (h b k * wh g k) := fun k => by
    rw [← mul_assoc, mul_comm]
  simp only [e1, e2, ← half_sum]
  rw [mul_comm (bi g + bh g) half, half_add, half_add, half_add, half_add]
  abel

/-- The two forms of the step agree where the state, the candidate's recurrent weights and its bias are real. -/
theorem stepT_eq (t : Fin 2048) (h : Fin 16 → Fin 128 → EReal) (hh : ∀ b k, IsReal (h b k))
    (hw : ∀ k c, IsReal (wh (gate 2 k) c)) (hb : ∀ k, IsReal (bh (gate 2 k))) (b : Fin 16) (k : Fin 128) :
    stepT wh bh (xinT x wi bi bh t) h b k = stepOf wh bh (xin x wi bi t) h b k := by
  unfold stepT stepOf
  have lo0 : (gate 0 k).val < 256 := by simp [gate]; omega
  have lo1 : (gate 1 k).val < 256 := by simp [gate]; omega
  have hx : xinT x wi bi bh t b (gate 2 k) = xin x wi bi t b (gate 2 k) := by
    unfold xinT xin bias
    rw [scale_hi, if_neg (by simp [gate])]
    simp only [mul_one, add_zero]
  have hr : recT wh h b (gate 2 k) = ∑ c : Fin 128, h b c * wh (gate 2 k) c := by
    unfold recT
    rw [scale_hi]
    simp only [mul_one]
  rw [pre_half x wi wh bi bh t h b lo0, pre_half x wi wh bi bh t h b lo1, hx, hr, ← half_add]
  exact cellT_eq _ _ _ _ _ ((IsReal.sum _ _ fun c => (hh b c).mul (hw k c)).add (hb k)) (hh b k)

end Recurrence

end Cert.Gru
-- ==== Proof.Val.Pre.lean ====
/- What the precondition says: the first sequence is a longest one, and the candidate gate's recurrent weights and bias
   are reals. -/
module

public import proofs.«01_k».proof.Pre_longest_first_finite_candidate
public import proofs.«01_k».proof.Proof.Val.Gru
public import Idealize.ShloMosaic.Lib.Pointwise
public import Idealize.ShloMosaic.Lib.WordCmp
public import Idealize.ShloMosaic.Lib.Affine

@[expose] public section

set_option maxRecDepth 16384

noncomputable section

namespace Cert.Gru

open Idealize.ShloMosaic
open Cert.Pre_longest_first_finite_candidate

/-- The shapes the precondition's operations take fit together. -/
theorem preFacts : Cert.Pre_longest_first_finite_candidate.Facts where
  slices_S16_S1_0 := by decide
  shapeCasts_S1_S_ := by decide
  bcast_S_S16 := by decide
  slices_S384x128_S128x128_256_0 := by decide
  bcast_S_S128x128 := by decide
  slices_S384_S128_256 := by decide
  bcast_S_S128 := by decide
  bcast_S16_S16x1x1_0 := by decide
  bcast_S128x128_S1x128x128_1_2 := by decide
  bcast_S16x1x1_S16x128x128_0_1_2 := by decide
  bcast_S1x128x128_S16x128x128_0_1_2 := by decide
  bcast_S128_S1x128x1_1 := by decide
  bcast_S1x128x1_S16x128x128_0_1_2 := by decide

/-- A value whose absolute value is below infinity is a real. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  replace h : Ideal.cmp .olt (max x (-x)) (Ideal.ofBits .f32 0x7F800000#32) = 1#1 := h
  rw [htop] at h
  have hlt : max x (-x) < ⊤ := by
    by_contra hn
    simp [Ideal.cmp, hn] at h
  obtain ⟨h1, h2⟩ := max_lt_iff.mp hlt
  induction x with
  | bot => simp at h2
  | coe r => exact ⟨r, rfl⟩
  | top => simp at h1

section

variable [Cert.Pre_longest_first_finite_candidate.Facts]
variable (x : FVec Ideal S16x128x2048 .f32) (len : IVec S16 32) (wi wh : FVec Ideal S384x128 .f32) (bi bh : FVec Ideal S384 .f32)

/-- The precondition at one place of its mask. -/
theorem pre_at (b : Fin 16) (k i : Fin 128) :
    fn x len wi wh bi bh (ix3 b k i)
      = IntOp.andi (IntOp.andi (IntOp.cmpi .sle (len (ix1 b)) (len (ix1 0)))
          (FloatOps.cmpf .olt (FloatOps.hostAbsf (wh (ix2 (gate 2 k) i))) (FloatOps.ofBits (F := Ideal) .f32 0x7F800000#32)))
          (FloatOps.cmpf .olt (FloatOps.hostAbsf (bh (ix1 (gate 2 k)))) (FloatOps.ofBits (F := Ideal) .f32 0x7F800000#32)) := by
  pointwise [fn]
  rfl

/-- Where the precondition holds, the three things it says hold. -/
theorem pre_holds (h : fn x len wi wh bi bh = fun _ => 1#1) (b : Fin 16) (k i : Fin 128) :
    (len (ix1 b)).toInt ≤ (len (ix1 0)).toInt ∧ IsReal (wh (ix2 (gate 2 k) i)) ∧ IsReal (bh (ix1 (gate 2 k))) := by
  have h' := (pre_at x len wi wh bi bh b k i).symm.trans (congrFun h _)
  obtain ⟨h12, h3⟩ := IntOp.andi_eq_one.mp h'
  obtain ⟨h1, h2⟩ := IntOp.andi_eq_one.mp h12
  rw [WordCmp.cmpi_sle_eq, WordCmp.ofBool_decide_eq_one_iff] at h1
  exact ⟨h1, isReal_of_abs_lt _ h2, isReal_of_abs_lt _ h3⟩

end

end Cert.Gru
-- ==== Proof.KI.Words.lean ====
/- The words the kernel's body computes from the length it loads: how many steps of a block are live,
   how many trips the two loops make, where a trip's rows lie, which of the two branches is taken. -/
module

public import proofs.«01_k».proof.Proof.Gen.KernelIdeal.Launch
public import Idealize.ShloMosaic.Lib.Tactic

@[expose] public section

set_option maxRecDepth 16384

noncomputable section

namespace Cert.KernelIdeal.Gru

open Idealize.ShloMosaic Idealize.ShloMosaic.TcCoe

/-- The number of live steps of block `i`, as the kernel computes it: the length minus the block's start, clipped. -/
def nw (i : grid0.Coords) (v4 : BitVec 32) : BitVec 32 :=
  Scalar.minsi 512#32 (Scalar.maxsi 0#32 (Scalar.subi v4 (Scalar.muli (BitVec.ofNat 32 (i 0).val) 512#32)))

/-- The same as a number. -/
def nrem (i : grid0.Coords) (v4 : BitVec 32) : ℕ := (nw i v4).toNat

/-- A word clipped to `[0, 512]` lies there. -/
theorem clip_toNat_le (x : BitVec 32) : (Scalar.minsi 512#32 (Scalar.maxsi 0#32 x)).toNat ≤ 512 := by
  simp only [Scalar.minsi, Scalar.maxsi, IntOp.minsi, IntOp.maxsi]
  split <;> split <;> simp_all [BitVec.slt, BitVec.toInt] <;> (try split at *) <;> omega

theorem nrem_le (i : grid0.Coords) (v4 : BitVec 32) : nrem i v4 ≤ 512 := clip_toNat_le _

/-- A property of a word at most 512 holds as soon as it holds of each of the 513 values. -/
theorem word_all {P : BitVec 32 → Prop} (h : ∀ n : Fin 513, P (BitVec.ofNat 32 n.val)) :
    ∀ w : BitVec 32, w.toNat ≤ 512 → P w := by
  intro w hw
  have := h ⟨w.toNat, Nat.lt_succ_of_le hw⟩
  simpa using this

/-- The first loop makes `⌈nrem / 8⌉` trips, -/
theorem trips1 (i : grid0.Coords) (v4 : BitVec 32) : (k0_t1_loop i v4).trips = (nrem i v4 + 7) / 8 := by
  have hw := nrem_le i v4
  unfold nrem at hw ⊢
  unfold k0_t1_loop
  dsimp only
  rw [← nw]
  generalize nw i v4 = w at hw ⊢
  revert w
  exact word_all (by decide +kernel)

/-- and its operands are in order. -/
theorem ok1 (i : grid0.Coords) (v4 : BitVec 32) : (k0_t1_loop i v4).OK := by
  have hw := nrem_le i v4
  unfold nrem at hw
  unfold k0_t1_loop
  dsimp only
  rw [← nw]
  generalize nw i v4 = w at hw ⊢
  revert w
  exact word_all (by decide +kernel)

/-- The second loop (the rest of the trips after the unrolled ones) makes none, -/
theorem trips2 (i : grid0.Coords) (v4 : BitVec 32) : (k0_t2_loop i v4).trips = 0 := by
  have hw := nrem_le i v4
  unfold nrem at hw
  unfold k0_t2_loop
  dsimp only
  rw [← nw]
  generalize nw i v4 = w at hw ⊢
  revert w
  exact word_all (by decide +kernel)

/-- and its operands are in order. -/
theorem ok2 (i : grid0.Coords) (v4 : BitVec 32) : (k0_t2_loop i v4).OK := by
  have hw := nrem_le i v4
  unfold nrem at hw
  unfold k0_t2_loop
  dsimp only
  rw [← nw]
  generalize nw i v4 = w at hw ⊢
  revert w
  exact word_all (by decide +kernel)

/-- The zero fill runs exactly when the block is not full, -/
theorem cond2_iff (i : grid0.Coords) (v4 : BitVec 32) : k0_cond2 i v4 = 1#1 ↔ nrem i v4 < 512 := by
  have hw := nrem_le i v4
  unfold nrem at hw ⊢
  unfold k0_cond2
  dsimp only
  rw [← nw]
  generalize nw i v4 = w at hw ⊢
  revert w
  exact word_all (by decide +kernel)

/-- and the steps run exactly when the block has a live one. -/
theorem cond3_iff (i : grid0.Coords) (v4 : BitVec 32) : k0_cond3 i v4 = 1#1 ↔ 0 < nrem i v4 := by
  have hw := nrem_le i v4
  unfold nrem at hw ⊢
  unfold k0_cond3
  dsimp only
  rw [← nw]
  generalize nw i v4 = w at hw ⊢
  revert w
  exact word_all (by decide +kernel)

theorem trips1_le (i : grid0.Coords) (v4 : BitVec 32) : (k0_t1_loop i v4).trips ≤ 64 := by
  have := nrem_le i v4
  rw [trips1]; omega

/-- Row `r` of trip `k` is row `8 k + r` of the block: the word, -/
theorem row_toNat (k : ℕ) (hk : k < 64) (r : Fin 8) :
    (Scalar.addi (Scalar.muli 8#32 (Scf.iv 0#32 1#32 k)) (BitVec.ofNat 32 r.val)).toNat = 8 * k + r.val := by
  have : ∀ (k : Fin 64) (r : Fin 8),
      (Scalar.addi (Scalar.muli 8#32 (Scf.iv 0#32 1#32 k.val)) (BitVec.ofNat 32 r.val)).toNat = 8 * k.val + r.val := by
    decide +kernel
  exact this ⟨k, hk⟩ r

/-- where a trip reads the projected input, -/
theorem off1_eq (i : grid0.Coords) (v4 : BitVec 32) (k : Fin (k0_t1_loop i v4).trips) (r : Fin 8) :
    k0_off1 i v4 k (BitVec.ofNat 32 r.val) = ![8 * k.val + r.val, 0, 0] := by
  have := row_toNat k.val (lt_of_lt_of_le k.isLt (trips1_le i v4)) r
  unfold k0_off1
  dsimp only
  exact congrArg (fun n => ![n, 0, 0]) this

/-- and where it stores its row. -/
theorem off2_eq (i : grid0.Coords) (v4 : BitVec 32) (k : Fin (k0_t1_loop i v4).trips) (r : Fin 8) :
    k0_off2 i v4 k (BitVec.ofNat 32 r.val) = ![8 * k.val + r.val, 0, 0] := off1_eq i v4 k r

/-- The body's own check of the length holds of every word. -/
theorem chk1 (i : grid0.Coords) (v4 : BitVec 32) : k0_chk1 i v4 := by
  have h64 := trips1_le i v4
  refine ⟨fun _ => ok1 i v4, fun k _ r a => ?_, fun k _ r a => ?_, fun _ => ok2 i v4, fun k => ?_, fun k => ?_⟩
  · rw [off1_eq]; fin_cases a <;> simp [S1x16x384, S512x16x384] <;> omega
  · rw [off2_eq]; fin_cases a <;> simp [S1x16x128, S512x16x128] <;> omega
  · exact absurd (trips2 i v4 ▸ k.pos) (lt_irrefl 0)
  · exact absurd (trips2 i v4 ▸ k.pos) (lt_irrefl 0)

/-- No point leaves the output block untouched. -/
theorem not_idle {F : FTy → Type} [FloatOps F] (pf : pre0.Contents (Elt F)) (w : Fin 7) (i : grid0.Coords) : idle0 pf w i = false := by
  fin_cases w <;> try rfl
  show (!(k0_cond2 i (pf.atD 0 ![0]) == 1#1) && !(k0_cond3 i (pf.atD 0 ![0]) == 1#1)) = false
  have h2 := cond2_iff i (pf.atD 0 ![0])
  have h3 := cond3_iff i (pf.atD 0 ![0])
  by_cases h : nrem i (pf.atD 0 ![0]) < 512
  · simp [h2.2 h]
  · simp [h3.2 (by omega)]

end Cert.KernelIdeal.Gru
-- ==== Proof.KI.Block.lean ====
/- One block of time steps as a plain function of what the kernel holds: the step, the state before each
   step, the row a step stores, the block after a number of steps. -/
module

public import proofs.«01_k».proof.Proof.KI.Words
public import proofs.«01_k».proof.Proof.Gen.KernelIdeal.Skeleton
public import Idealize.ShloMosaic.Lib.Pointwise

@[expose] public section

set_option maxRecDepth 16384

noncomputable section

namespace Cert.KernelIdeal.Gru

open Idealize.ShloMosaic Idealize.ShloMosaic.TcCoe Cert.KernelIdeal.Gen

variable {F : FTy → Type} [FloatOps F]

/-- Row `n` of the projected inputs of a block (the first row when `n` is past the end). -/
def xrow (X : Vec F S512x16x384 .f32) (n : ℕ) : Vec F S1x16x384 .f32 :=
  fun j => X (ix3 (Fin.ofNat 512 n) (j 1) (j 2))

/-- One step: the new state from the recurrent weights, the bias, the state and the projected input. -/
def stepF (w : FVec F S128x384 .bf16) (b : FVec F S1x128 .f32) (h : FVec F S16x128 .f32) (x : Vec F S1x16x384 .f32) :
    FVec F S16x128 .f32 := k0_pay4 w b h x

/-- The state before step `n` of a block, from the state the block starts with. -/
def stateAt (w : FVec F S128x384 .bf16) (b : FVec F S1x128 .f32) (X : Vec F S512x16x384 .f32) (h : FVec F S16x128 .f32) :
    ℕ → FVec F S16x128 .f32
  | 0 => h
  | n + 1 => stepF w b (stateAt w b X h n) (xrow X n)

/-- The row a step stores: the new state where the sequence is longer than the step's time, zero elsewhere. -/
def maskRow (len : IVec S16x128 32) (t : BitVec 32) (h : FVec F S16x128 .f32) : FVec F S1x16x128 .f32 :=
  shapeCast S1x16x128 (mulf h (sitofp .f32 (extui 32 (cmpi .sgt len (broadcast S16x128 t)) natLt_1_32))) shapeCasts_S16x128_S1x16x128

/-- A block with row `n` replaced. -/
def setRow (E : FVec F S512x16x128 .f32) (n : ℕ) (r : FVec F S1x16x128 .f32) : FVec F S512x16x128 .f32 :=
  fun j => if (j 0).val = n then r (ix3 (0 : Fin 1) (j 1) (j 2)) else E j

/-- The block after `n` steps, from its contents before. -/
def blockAt (w : FVec F S128x384 .bf16) (b : FVec F S1x128 .f32) (len : IVec S16x128 32) (v3 : BitVec 32)
    (X : Vec F S512x16x384 .f32) (h : FVec F S16x128 .f32) (E : FVec F S512x16x128 .f32) : ℕ → FVec F S512x16x128 .f32
  | 0 => E
  | n + 1 => setRow (blockAt w b len v3 X h E n) n (maskRow len (v3 + BitVec.ofNat 32 n) (stateAt w b X h (n + 1)))

/-- The block after `n` steps, row by row: a stored row below `n`, what was there from `n` on. -/
theorem blockAt_apply (w : FVec F S128x384 .bf16) (b : FVec F S1x128 .f32) (len : IVec S16x128 32) (v3 : BitVec 32)
    (X : Vec F S512x16x384 .f32) (h : FVec F S16x128 .f32) (E : FVec F S512x16x128 .f32) (n : ℕ) (j : S512x16x128.Idx) :
    blockAt w b len v3 X h E n j
      = if (j 0).val < n then maskRow len (v3 + BitVec.ofNat 32 (j 0).val) (stateAt w b X h ((j 0).val + 1)) (ix3 (0 : Fin 1) (j 1) (j 2))
        else E j := by
  induction n with
  | zero => exact (if_neg (Nat.not_lt_zero _)).symm
  | succ n ih =>
    show (if (j 0).val = n then _ else blockAt w b len v3 X h E n j) = _
    rw [ih]
    rcases lt_trichotomy (j 0).val n with h1 | h1 | h1
    · rw [if_neg (Nat.ne_of_lt h1), if_pos h1, if_pos (Nat.lt_succ_of_lt h1)]
    · rw [if_pos h1, h1, if_pos (Nat.lt_succ_self n)]
    · rw [if_neg (Nat.ne_of_gt h1), if_neg (by omega), if_neg (by omega)]

/-- Once every row is stored, what was there before does not matter. -/
theorem blockAt_full (w : FVec F S128x384 .bf16) (b : FVec F S1x128 .f32) (len : IVec S16x128 32) (v3 : BitVec 32)
    (X : Vec F S512x16x384 .f32) (h : FVec F S16x128 .f32) (E E' : FVec F S512x16x128 .f32) (n : ℕ) (hn : 512 ≤ n) :
    blockAt w b len v3 X h E n = blockAt w b len v3 X h E' n := by
  funext j
  have hj : (j 0).val < n := lt_of_lt_of_le (j 0).isLt hn
  rw [blockAt_apply, blockAt_apply, if_pos hj, if_pos hj]

end Cert.KernelIdeal.Gru
-- ==== Proof.KI.Trip.lean ====
/- One trip of the kernel's loop: eight steps from the state and the block it finds to the state and the block
   eight steps on, and the loop's invariant. -/
module

public import proofs.«01_k».proof.Proof.KI.Block
public import Idealize.ShloMosaic.Lib.Exec
public import Idealize.ShloMosaic.Lib.Tactic
public import Idealize.ShloMosaic.Lib.Pipeline.Kit
public import Idealize.ShloMosaic.Lib.LoopEntry
public import Idealize.ShloMosaic.Lib.WritesUnit

@[expose] public section

set_option maxRecDepth 16384
set_option maxHeartbeats 4000000

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The word a step compares the lengths with: the block's start plus the step. -/
theorem row_word (k : ℕ) (hk : k < 64) (r : Fin 8) :
    Scalar.addi (Scalar.muli 8#32 (Scf.iv 0#32 1#32 k)) (BitVec.ofNat 32 r.val) = BitVec.ofNat 32 (8 * k + r.val) := by
  apply BitVec.eq_of_toNat_eq
  rw [row_toNat k hk r, BitVec.toNat_ofNat, Nat.mod_eq_of_lt]
  have := r.isLt
  omega

/-- A load of one row of the projected inputs reads that row. -/
theorem readAt_row (arg10 : Memref sig .tc .vmem S512x16x384 .f32) (X : BufTy.Contents (Elt F) arg10.view.ty) (off : Fin 3 → ℕ)
    (n : ℕ) (hoff : off = ![n, 0, 0]) (hin : ∀ a, off a + S1x16x384.size a ≤ S512x16x384.size a) :
    View.readAt (Elt F) arg10.view (Rect.unit (s := S512x16x384) off S1x16x384.size hin).toLoadRect X = xrow (arg10.view.read (Elt F) X) n := by
  subst hoff
  have hn : n < 512 := by have := hin 0; simp [S1x16x384, S512x16x384] at this; omega
  funext j
  unfold xrow
  show arg10.view.read (Elt F) X _ = arg10.view.read (Elt F) X _
  congr 1
  funext a
  apply Fin.ext
  match a with
  | ⟨0, _⟩ =>
    have h0 : (j 0).val = 0 := by have := (j 0).isLt; simp [S1x16x384] at this; omega
    show n + 1 * (j 0).val = n % 512
    rw [h0, Nat.mod_eq_of_lt hn]; omega
  | ⟨1, _⟩ => show 0 + 1 * (j 1).val = (j 1).val; omega
  | ⟨2, _⟩ => show 0 + 1 * (j 2).val = (j 2).val; omega

/-- A store of one row replaces that row and keeps the others. -/
theorem read_row_store (arg8 : Memref sig .tc .vmem S512x16x128 .f32) (f : BufTy.Contents (Elt F) arg8.view.ty) (off : Fin 3 → ℕ)
    (n : ℕ) (hoff : off = ![n, 0, 0]) (hin : ∀ a, off a + S1x16x128.size a ≤ S512x16x128.size a) (v : FVec F S1x16x128 .f32)
    (L : List (View.Piece (Elt F) S512x16x128 .f32)) :
    arg8.view.read (Elt F) (arg8.view.writes (Elt F) f ((⟨Rect.unit off S1x16x128.size hin, v⟩ : View.Piece (Elt F) S512x16x128 .f32) :: L))
      = setRow (arg8.view.read (Elt F) (arg8.view.writes (Elt F) f L)) n v := by
  funext j
  unfold setRow
  split
  · next h =>
    refine View.read_writes_cons_unit_of_mem arg8.view f hin v L j _ hoff fun a => ?_
    match a with
    | ⟨0, _⟩ => show (j 0).val = n + 0; omega
    | ⟨1, _⟩ => show (j 1).val = 0 + (j 1).val; omega
    | ⟨2, _⟩ => show (j 2).val = 0 + (j 2).val; omega
  · next h =>
    refine View.read_writes_cons_unit_of_not_mem arg8.view f hin v L j hoff 0 ?_
    show (j 0).val < n ∨ n + 1 ≤ (j 0).val
    omega

section Trip

variable (i : grid0.Coords) (v4 : BitVec 32) (k : Fin (k0_t1_loop i v4).trips)
  (arg8 : Memref sig .tc .vmem S512x16x128 .f32) (arg10 : Memref sig .tc .vmem S512x16x384 .f32)
  (w : FVec F S128x384 .bf16) (b : FVec F S1x128 .f32) (len : IVec S16x128 32) (v3 : BitVec 32)
  (X : BufTy.Contents (Elt F) arg10.view.ty) (f : BufTy.Contents (Elt F) arg8.view.ty)
  (h0 : FVec F S16x128 .f32) (B0 : FVec F S512x16x128 .f32)

/-- Step `r` of trip `k` takes the state before step `8 k + r` to the state after it. -/
theorem step_state (r : Fin 8) (hin : ∀ a, k0_off1 i v4 k (BitVec.ofNat 32 r.val) a + S1x16x384.size a ≤ S512x16x384.size a)
    (h : FVec F S16x128 .f32) (hh : h = stateAt w b (arg10.view.read (Elt F) X) h0 (8 * k.val + r.val)) :
    stepF w b h (View.readAt (Elt F) arg10.view (Rect.unit (s := S512x16x384) (k0_off1 i v4 k (BitVec.ofNat 32 r.val)) S1x16x384.size hin).toLoadRect X)
      = stateAt w b (arg10.view.read (Elt F) X) h0 (8 * k.val + r.val + 1) := by
  rw [readAt_row arg10 X _ _ (off1_eq i v4 k r), hh]
  rfl

/-- Step `r` of trip `k` stores its row into the block. -/
theorem step_block (r : Fin 8) (hin : ∀ a, k0_off2 i v4 k (BitVec.ofNat 32 r.val) a + S1x16x128.size a ≤ S512x16x128.size a)
    (L : List (View.Piece (Elt F) S512x16x128 .f32)) (h : FVec F S16x128 .f32)
    (hh : h = stateAt w b (arg10.view.read (Elt F) X) h0 (8 * k.val + r.val + 1))
    (hL : arg8.view.read (Elt F) (arg8.view.writes (Elt F) f L)
      = blockAt w b len v3 (arg10.view.read (Elt F) X) h0 B0 (8 * k.val + r.val)) :
    arg8.view.read (Elt F) (arg8.view.writes (Elt F) f ((⟨Rect.unit (k0_off2 i v4 k (BitVec.ofNat 32 r.val)) S1x16x128.size hin,
        maskRow len (Scalar.addi v3 (Scalar.addi (Scalar.muli 8#32 (Scf.iv 0#32 1#32 k.val)) (BitVec.ofNat 32 r.val))) h⟩ : View.Piece (Elt F) S512x16x128 .f32) :: L))
      = blockAt w b len v3 (arg10.view.read (Elt F) X) h0 B0 (8 * k.val + r.val + 1) := by
  rw [read_row_store arg8 f _ _ (off2_eq i v4 k r), hL, row_word k.val (lt_of_lt_of_le k.isLt (trips1_le i v4)) r, hh]
  rfl

end Trip

/-- One trip: from the state before step `8 k` and the block after `8 k` steps to those eight steps on. -/
theorem trip (𝒱 : Variants) (c : Dev nD) (bd : Option 𝒱.V) (E : Set ℕ) (i : grid0.Coords) (arg1 : Memref sig .tc .smem S16 .i32) (harg1 : arg1.IsWhole) (arg2 : Memref sig .tc .vmem S16x128x512 .f32) (harg2 : arg2.IsWhole) (arg3 : Memref sig .tc .vmem S128x384 .bf16) (harg3 : arg3.IsWhole) (arg4 : Memref sig .tc .vmem S128x384 .bf16) (harg4 : arg4.IsWhole) (arg5 : Memref sig .tc .vmem S1x384 .f32) (harg5 : arg5.IsWhole) (arg6 : Memref sig .tc .vmem S1x128 .f32) (harg6 : arg6.IsWhole) (arg7 : Memref sig .tc .vmem S16x128 .i32) (harg7 : arg7.IsWhole) (arg8 : Memref sig .tc .vmem S512x16x128 .f32) (harg8 : arg8.IsWhole) (arg9 : Memref sig .tc .vmem S16x128 .f32) (harg9 : arg9.IsWhole) (arg10 : Memref sig .tc .vmem S512x16x384 .f32) (harg10 : arg10.IsWhole) (v3 : BitVec 32) (v4 : Elt F .i32) (hw : k0_chk1 i v4) (h3 : k0_cond3 i v4 = 1#1)
    (w : FVec F S128x384 .bf16) (b : FVec F S1x128 .f32) (len : IVec S16x128 32)
    (X : BufTy.Contents (Elt F) arg10.view.ty) (f : BufTy.Contents (Elt F) arg8.view.ty)
    (k : Fin (k0_t1_loop i v4).trips) (h h0 : FVec F S16x128 .f32) (B0 : FVec F S512x16x128 .f32)
    (hh : h = stateAt w b (arg10.view.read (Elt F) X) h0 (8 * k.val))
    (hf : arg8.view.read (Elt F) f = blockAt w b len v3 (arg10.view.read (Elt F) X) h0 B0 (8 * k.val)) :
    (iprop((arg10.view.loc (c : Thread nD τ) ↦[arg10.view.set]{fullShare} X) ∗ (arg8.view.loc (c : Thread nD τ) ↦[arg8.view.set]{fullShare} f)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 v3 v4 hw h3 w b len k h)
          (fun y => iprop((arg10.view.loc (c : Thread nD τ) ↦[arg10.view.set]{fullShare} X)
            ∗ (∃ f', (arg8.view.loc (c : Thread nD τ) ↦[arg8.view.set]{fullShare} f')
              ∗ ⌜arg8.view.read (Elt F) f' = blockAt w b len v3 (arg10.view.read (Elt F) X) h0 B0 (8 * (k.val + 1))⌝)
            ∗ ⌜y = stateAt w b (arg10.view.read (Elt F) X) h0 (8 * (k.val + 1))⌝)) := by
  have s0 := step_state i v4 k arg10 w b X h0 0 (k0_off1_inb i v4 hw k h3 0) h hh
  have s1 := step_state i v4 k arg10 w b X h0 1 (k0_off1_inb i v4 hw k h3 1) _ s0
  have s2 := step_state i v4 k arg10 w b X h0 2 (k0_off1_inb i v4 hw k h3 2) _ s1
  have s3 := step_state i v4 k arg10 w b X h0 3 (k0_off1_inb i v4 hw k h3 3) _ s2
  have s4 := step_state i v4 k arg10 w b X h0 4 (k0_off1_inb i v4 hw k h3 4) _ s3
  have s5 := step_state i v4 k arg10 w b X h0 5 (k0_off1_inb i v4 hw k h3 5) _ s4
  have s6 := step_state i v4 k arg10 w b X h0 6 (k0_off1_inb i v4 hw k h3 6) _ s5
  have s7 := step_state i v4 k arg10 w b X h0 7 (k0_off1_inb i v4 hw k h3 7) _ s6
  have b0 := step_block i v4 k arg8 arg10 w b len v3 X f h0 B0 0 (k0_off2_inb i v4 hw k h3 0) [] _ s0 hf
  have b1 := step_block i v4 k arg8 arg10 w b len v3 X f h0 B0 1 (k0_off2_inb i v4 hw k h3 1) _ _ s1 b0
  have b2 := step_block i v4 k arg8 arg10 w b len v3 X f h0 B0 2 (k0_off2_inb i v4 hw k h3 2) _ _ s2 b1
  have b3 := step_block i v4 k arg8 arg10 w b len v3 X f h0 B0 3 (k0_off2_inb i v4 hw k h3 3) _ _ s3 b2
  have b4 := step_block i v4 k arg8 arg10 w b len v3 X f h0 B0 4 (k0_off2_inb i v4 hw k h3 4) _ _ s4 b3
  have b5 := step_block i v4 k arg8 arg10 w b len v3 X f h0 B0 5 (k0_off2_inb i v4 hw k h3 5) _ _ s5 b4
  have b6 := step_block i v4 k arg8 arg10 w b len v3 X f h0 B0 6 (k0_off2_inb i v4 hw k h3 6) _ _ s6 b5
  have b7 := step_block i v4 k arg8 arg10 w b len v3 X f h0 B0 7 (k0_off2_inb i v4 hw k h3 7) _ _ s7 b6
  clear hf b0 b1 b2 b3 b4 b5 b6 s0 s1 s2 s3 s4 s5 s6
  unfold k0_t1_body
  iintro ⟨HR, HW⟩
  sl_exec
  sl_step
  isplitl [HR]
  · iexact HR
  isplitl [HW]
  · iexists _
    isplitl [HW]
    · iexact HW
    ipureintro
    exact b7
  ipureintro
  exact s7

end Cert.KernelIdeal.Gru
-- ==== Proof.KI.Loop.lean ====
/- The invariants of the kernel's two loops: the first carries the state and the block it has filled so far,
   the second makes no trip. -/
module

public import proofs.«01_k».proof.Proof.KI.Trip

@[expose] public section

set_option maxRecDepth 16384
set_option maxHeartbeats 4000000

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The block's buffer before trip `k`, from its contents at entry. -/
def bufAt (arg8 : Memref sig .tc .vmem S512x16x128 .f32) (harg8 : arg8.IsWhole) (w : FVec F S128x384 .bf16) (b : FVec F S1x128 .f32)
    (len : IVec S16x128 32) (v3 : BitVec 32) (X : Vec F S512x16x384 .f32) (h0 : FVec F S16x128 .f32)
    (f0 : BufTy.Contents (Elt F) arg8.view.ty) : ℕ → BufTy.Contents (Elt F) arg8.view.ty
  | 0 => f0
  | k + 1 => harg8.unread (blockAt w b len v3 X h0 (arg8.view.read (Elt F) f0) (8 * (k + 1)))

theorem read_bufAt (arg8 : Memref sig .tc .vmem S512x16x128 .f32) (harg8 : arg8.IsWhole) (w : FVec F S128x384 .bf16) (b : FVec F S1x128 .f32)
    (len : IVec S16x128 32) (v3 : BitVec 32) (X : Vec F S512x16x384 .f32) (h0 : FVec F S16x128 .f32)
    (f0 : BufTy.Contents (Elt F) arg8.view.ty) (k : ℕ) :
    arg8.view.read (Elt F) (bufAt arg8 harg8 w b len v3 X h0 f0 k) = blockAt w b len v3 X h0 (arg8.view.read (Elt F) f0) (8 * k) := by
  cases k with
  | zero => rfl
  | succ k => exact harg8.read_unread _

set_option warn.classDefReducibility false in
/-- The first loop's invariant: before trip `k` the carried value is the state before step `8 k` and the block holds
    the rows of the steps before. -/
@[sl_loop] def loopInv1 (𝒱 : Variants) (c : Dev nD) (bd : Option 𝒱.V) (E : Set ℕ) (i : grid0.Coords) (arg1 : Memref sig .tc .smem S16 .i32) (harg1 : arg1.IsWhole) (arg2 : Memref sig .tc .vmem S16x128x512 .f32) (harg2 : arg2.IsWhole) (arg3 : Memref sig .tc .vmem S128x384 .bf16) (harg3 : arg3.IsWhole) (arg4 : Memref sig .tc .vmem S128x384 .bf16) (harg4 : arg4.IsWhole) (arg5 : Memref sig .tc .vmem S1x384 .f32) (harg5 : arg5.IsWhole) (arg6 : Memref sig .tc .vmem S1x128 .f32) (harg6 : arg6.IsWhole) (arg7 : Memref sig .tc .vmem S16x128 .i32) (harg7 : arg7.IsWhole) (arg8 : Memref sig .tc .vmem S512x16x128 .f32) (harg8 : arg8.IsWhole) (arg9 : Memref sig .tc .vmem S16x128 .f32) (harg9 : arg9.IsWhole) (arg10 : Memref sig .tc .vmem S512x16x384 .f32) (harg10 : arg10.IsWhole) (v3 : BitVec 32) (v4 : Elt F .i32) (hw : k0_chk1 i v4) (h3 : k0_cond3 i v4 = 1#1)
    (w : FVec F S128x384 .bf16) (b : FVec F S1x128 .f32) (len : IVec S16x128 32) (init : FVec F S16x128 .f32)
    (X : BufTy.Contents (Elt F) arg10.view.ty) (f0 : BufTy.Contents (Elt F) arg8.view.ty) :
    Idealize.ShloMosaic.LoopInv (M := 𝕄G) Idealize.ShloMosaic.frame (wpE (defs₀ (F := F)) 𝒱 (c : Thread nD τ) bd) E
      (k0_t1_loop i v4).lb (k0_t1_loop i v4).ub (k0_t1_loop i v4).st (k0_t1_ok i v4 hw h3) init
      (k0_t1_body (F := F) i arg1 harg1 arg2 harg2 arg3 harg3 arg4 harg4 arg5 harg5 arg6 harg6 arg7 harg7 arg8 harg8 arg9 harg9 arg10 harg10 v3 v4 hw h3 w b len) where
  inv k acc := iprop((arg10.view.loc (c : Thread nD τ) ↦[arg10.view.set]{fullShare} X)
    ∗ (arg8.view.loc (c : Thread nD τ) ↦[arg8.view.set]{fullShare} bufAt arg8 harg8 w b len v3 (arg10.view.read (Elt F) X) init f0 k)
    ∗ ⌜acc = stateAt w b (arg10.view.read (Elt F) X) init (8 * k)⌝)
  step k acc := by
    iintro ⟨HX, HB, %hacc⟩
    iapply (wp_wand_r Idealize.ShloMosaic.frame (wpE (defs₀ (F := F)) 𝒱 (c : Thread nD τ) bd) E)
    isplitl [HX HB]
    · iapply (trip 𝒱 c bd E i arg1 harg1 arg2 harg2 arg3 harg3 arg4 harg4 arg5 harg5 arg6 harg6 arg7 harg7 arg8 harg8 arg9 harg9 arg10 harg10 v3 v4 hw h3 w b len X _ k acc init (arg8.view.read (Elt F) f0) hacc (read_bufAt ..))
      isplitl [HX]; · iexact HX
      iexact HB
    · iintro %y ⟨HX, ⟨%f', HB, %hf'⟩, %hy⟩
      obtain rfl := harg8.eq_unread hf'
      isplitl [HX]; · iexact HX
      isplitl [HB]; · iexact HB
      ipureintro; exact hy

set_option warn.classDefReducibility false in
/-- The second loop's: it makes no trip, so what it carries is what it was given. -/
@[sl_loop] def loopInv2 (𝒱 : Variants) (c : Dev nD) (bd : Option 𝒱.V) (E : Set ℕ) (i : grid0.Coords) (arg1 : Memref sig .tc .smem S16 .i32) (harg1 : arg1.IsWhole) (arg2 : Memref sig .tc .vmem S16x128x512 .f32) (harg2 : arg2.IsWhole) (arg3 : Memref sig .tc .vmem S128x384 .bf16) (harg3 : arg3.IsWhole) (arg4 : Memref sig .tc .vmem S128x384 .bf16) (harg4 : arg4.IsWhole) (arg5 : Memref sig .tc .vmem S1x384 .f32) (harg5 : arg5.IsWhole) (arg6 : Memref sig .tc .vmem S1x128 .f32) (harg6 : arg6.IsWhole) (arg7 : Memref sig .tc .vmem S16x128 .i32) (harg7 : arg7.IsWhole) (arg8 : Memref sig .tc .vmem S512x16x128 .f32) (harg8 : arg8.IsWhole) (arg9 : Memref sig .tc .vmem S16x128 .f32) (harg9 : arg9.IsWhole) (arg10 : Memref sig .tc .vmem S512x16x384 .f32) (harg10 : arg10.IsWhole) (v3 : BitVec 32) (v4 : Elt F .i32) (hw : k0_chk1 i v4) (h3 : k0_cond3 i v4 = 1#1)
    (w : FVec F S128x384 .bf16) (b : FVec F S1x128 .f32) (len : IVec S16x128 32) (v60 : BitVec 32) (init : FVec F S16x128 .f32) :
    Idealize.ShloMosaic.LoopInv (M := 𝕄G) Idealize.ShloMosaic.frame (wpE (defs₀ (F := F)) 𝒱 (c : Thread nD τ) bd) E
      (k0_t2_loop i v4).lb (k0_t2_loop i v4).ub (k0_t2_loop i v4).st (k0_t2_ok i v4 hw h3) init
      (k0_t2_body (F := F) i arg1 harg1 arg2 harg2 arg3 harg3 arg4 harg4 arg5 harg5 arg6 harg6 arg7 harg7 arg8 harg8 arg9 harg9 arg10 harg10 v3 v4 hw h3 w b len v60) where
  inv _ acc := iprop(⌜acc = init⌝)
  step k _ := ((trips2 i v4 ▸ k.pos : 0 < 0).false).elim

end Cert.KernelIdeal.Gru
-- ==== Proof.KI.Setup.lean ====
/- The launch around the kernel: the host lines before and after it, the prefetched table, the windows' blocks,
   the memrefs the body is called with. -/
module

public import proofs.«01_k».proof.Proof.KI.Loop
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer of core `c` when the kernel is entered: what the host lines before it leave. -/
abbrev V0 (c : Dev nD) : Valuation τ sig (Elt F) := StableHlo.after (List.flatten [hostOps0]) (fun b => m (c, b))
/-- The same at one reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines, the kernel, the host line after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The line after the kernel touches no table and nothing scoped. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.unary_bufs, Finset.mem_insert, Finset.mem_singleton, not_or] <;> and_intros <;> exact StableHlo.devRef_ne_of_ne (by decide)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result only. -/
theorem sfx_writes : ∀ ops ∈ ([hostOps1] : List (List (HloOp τ sig (Elt F)))), ∀ op ∈ ops,
    ∀ b : Ref sig .tc, Proc.devRef .tc b ∈ op.writes → b = main_v26 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.unary_writes, Finset.mem_singleton] at hb; exact Proc.devRef_injective _ hb
/-- So no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  exact (by decide : ∀ w, Pipeline.arrRef spec0 w ≠ main_v26) w (sfx_writes ops hops op hop _ hw)

/-- What the host lines before the kernel write. -/
def hostWritten : Finset (Ref sig .tc) := {main_cst, main_cst_0, main_cst_1, main_cst_2, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24}

/-- No host line before the kernel writes an argument. -/
theorem V_arg (c : Dev nD) (b : Ref sig .tc) (hb : b ∈ ({main_arg0, main_arg1, main_arg2, main_arg3, main_arg4, main_arg5} : Finset (Ref sig .tc))) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    simp only [Finset.mem_insert, Finset.mem_singleton] at hb
    rcases hb with rfl | rfl | rfl | rfl | rfl | rfl
    all_goals
      repeat' apply And.intro
      all_goals exact StableHlo.devRef_ne_of_ne (by decide)))

/-- The table's contents when the kernel is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so nothing is asked of it. -/
theorem ok : ok0 (F := F) (tbl m) := trivial
abbrev adm : (pcfg0 (F := F)).Adm := ⟨tbl m, ok m⟩
abbrev cfgM : Pipeline.Cfg sig Λ₀ := cfg0 (adm m)

/-- The table as the body is handed it. -/
abbrev tbM : Memref sig .tc .smem S16 .i32 := Memref.whole main_arg1
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The word the body loads from a table: its first element. -/
abbrev word (c : Dev nD) (xt : TbBuf (F := F) c tbM) : BitVec 32 :=
  tbM.view.readAt (Elt F) (Rect.unit (s := S16) ![0] S1.size inb_S16_S1_0).toLoadRect xt (Shape.Idx.first (numel1_S1.symm ▸ Nat.one_pos))

/-- Window `w`'s block at point `t`, read off its array as the kernel finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The body's first branch is taken at the first point only. -/
abbrev cond1 (i : grid0.Coords) : Prop := (Scalar.cmpi .ne (Scalar.extui (Scalar.cmpi .eq (BitVec.ofNat 32 (i 0).val) 0#32)) 0#32) = 1#1
theorem cond1_iff : ∀ t : Fin grid0.N, cond1 (grid0.coords t) ↔ t.val = 0 := by decide +kernel

/-- Each window's current staging memref at point `t`. -/
abbrev ms0 (t : Fin (cfgM m).N) : Memref sig .tc .vmem S16x128x512 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S128x384 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S128x384 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x384 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x128 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S16x128 .i32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S512x16x128 .f32 := spec0_6.stage ((cfgM m).slots t 6)
abbrev hs6 (t : Fin (cfgM m).N) : (ms6 m t).IsWhole := hstage0_6 (((cfgM m).slots t 6).cast nbuf0_6)
/-- The scratch buffers: the state and the projected inputs. -/
abbrev scH : Memref sig .tc .vmem S16x128 .f32 := Memref.whole cc0_scratch0
abbrev scX : Memref sig .tc .vmem S512x16x384 .f32 := Memref.whole cc0_scratch1

/-- What the launch hands the body beside the windows: the scratch buffers and the generator register. -/
theorem PhiA_eq (c : Dev nD) :
    (Pipeline.ΦA spec0 c : sProp 𝕄)
      = iprop(iprop((∃ d, owns (c : Thread nD τ) scH fullShare d) ∗ (∃ d, owns (c : Thread nD τ) scX fullShare d)) ∗ (∃ r, prngReg c r)) := by
  unfold Pipeline.ΦA; rw [scopedRest0_eq]; simp only [scH, scX, owns_whole]; try rfl

end Cert.KernelIdeal.Gru
-- ==== Proof.KI.Run.lean ====
/- The kernel's body at one point, run: from the windows' blocks and the state to the block and the state it leaves. -/
module

public import proofs.«01_k».proof.Proof.KI.Setup
public import Idealize.ShloMosaic.Lib.VecWindow

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- How many steps a block runs: what is left of the longest sequence, up to the next eight. -/
def steps (i : grid0.Coords) (v4 : BitVec 32) : ℕ := 8 * ((nrem i v4 + 7) / 8)

/-- The state a block starts with: zero at the first point, else the state the point before left. -/
def stateIn (i : grid0.Coords) (h : FVec F S16x128 .f32) : FVec F S16x128 .f32 := if cond1 i then k0_pay1 else h

theorem stateIn_pos {i : grid0.Coords} (hi : cond1 i) (h : FVec F S16x128 .f32) : stateIn i h = k0_pay1 := if_pos hi
theorem stateIn_neg {i : grid0.Coords} (hi : ¬ cond1 i) (h : FVec F S16x128 .f32) : stateIn i h = h := if_neg hi

/-- The state a block leaves, from its inputs and the state it starts with. -/
def stateOut (i : grid0.Coords) (v4 : BitVec 32) (x0 : Vec F S16x128x512 .f32) (x1 x2 : Vec F S128x384 .bf16) (x3 : Vec F S1x384 .f32)
    (x4 : Vec F S1x128 .f32) (h : FVec F S16x128 .f32) : FVec F S16x128 .f32 :=
  stateAt x2 x4 (k0_pay36 x0 x1 x3) h (steps i v4)

/-- The block it stores. -/
def blockOut (i : grid0.Coords) (v4 : BitVec 32) (x0 : Vec F S16x128x512 .f32) (x1 x2 : Vec F S128x384 .bf16) (x3 : Vec F S1x384 .f32)
    (x4 : Vec F S1x128 .f32) (x5 : Vec F S16x128 .i32) (h : FVec F S16x128 .f32) : FVec F S512x16x128 .f32 :=
  blockAt x2 x4 x5 (Scalar.muli (BitVec.ofNat 32 (i 0).val) 512#32) (k0_pay36 x0 x1 x3) h k0_pay2 (steps i v4)

theorem pay3_eq (v : Vec F S16x128 .f32) : k0_pay3 v = v := shapeCast_self _ _
theorem pay37_eq (v : Vec F S128x384 .bf16) : k0_pay37 v = v := shapeCast_self _ _
theorem pay38_eq (v : Vec F S1x128 .f32) : k0_pay38 v = v := shapeCast_self _ _
theorem pay39_eq (v : Vec F S16x128 .i32) : k0_pay39 (F := F) v = v := shapeCast_self _ _

/-- A load of a whole buffer known to hold `x`. -/
theorem load_whole {s : Shape} {e : EltTy} {M : Memref sig .tc .vmem s e} (hM : M.IsWhole) (x : s.Idx → Elt F e) {off : Fin s.rank → ℕ}
    (inb : ∀ a, off a + s.size a ≤ s.size a) :
    M.view.readAt (Elt F) (Rect.unit off s.size inb).toLoadRect (hM.unread x) = x :=
  (View.readAt_full _ _ inb).trans (hM.read_unread x)

/-- A whole buffer just stored reads what was stored. -/
theorem reread {s : Shape} {e : EltTy} (M : Memref sig .tc .vmem s e) (f : BufTy.Contents (Elt F) M.view.ty) {off : Fin s.rank → ℕ}
    (inb : ∀ a, off a + s.size a ≤ s.size a) {w w' : s.Idx → Elt F e} (h : w = w') :
    M.view.read (Elt F) (M.view.writes (Elt F) f [⟨Rect.unit off s.size inb, w⟩]) = w' :=
  (View.read_writes_full M.view f inb w []).trans h

/-- The state left, from the pieces the run names. -/
theorem state_done {i : grid0.Coords} {v4 : BitVec 32} {x0 : Vec F S16x128x512 .f32} {x1 x2 w : Vec F S128x384 .bf16} {x3 : Vec F S1x384 .f32}
    {x4 b : Vec F S1x128 .f32} {X : Vec F S512x16x384 .f32} {h h' : FVec F S16x128 .f32} {n : ℕ}
    (hw : w = x2) (hb : b = x4) (hX : X = k0_pay36 x0 x1 x3) (hh : h = h') (hn : n = steps i v4) :
    k0_pay3 (stateAt w b X h n) = stateOut i v4 x0 x1 x2 x3 x4 h' := by
  subst hw hb hX hh hn; exact pay3_eq _

/-- The block stored, from the pieces the run names: what it held before matters only where some row is not stepped. -/
theorem block_done {i : grid0.Coords} {v4 : BitVec 32} {x0 : Vec F S16x128x512 .f32} {x1 x2 w : Vec F S128x384 .bf16} {x3 : Vec F S1x384 .f32}
    {x4 b : Vec F S1x128 .f32} {x5 len : Vec F S16x128 .i32} {X : Vec F S512x16x384 .f32} {h h' : FVec F S16x128 .f32} {E : FVec F S512x16x128 .f32} {n : ℕ}
    (hw : w = x2) (hb : b = x4) (hl : len = x5) (hX : X = k0_pay36 x0 x1 x3) (hh : h = h') (hn : n = steps i v4)
    (hE : E = k0_pay2 ∨ 512 ≤ steps i v4) :
    blockAt w b len (Scalar.muli (BitVec.ofNat 32 (i 0).val) 512#32) X h E n = blockOut i v4 x0 x1 x2 x3 x4 x5 h' := by
  subst hw hb hl hX hh hn
  rcases hE with rfl | hE
  · rfl
  · exact blockAt_full _ _ _ _ _ _ _ _ _ hE

theorem pay36_congr {x0 x0' : Vec F S16x128x512 .f32} {x1 x1' : Vec F S128x384 .bf16} {x3 x3' : Vec F S1x384 .f32}
    (h0 : x0 = x0') (h1 : x1 = x1') (h3 : x3 = x3') : k0_pay36 x0 x1 x3 = k0_pay36 x0' x1' x3' := by
  subst h0 h1 h3; rfl

/-- With nothing left no step is run. -/
theorem steps_zero {i : grid0.Coords} {v4 : BitVec 32} (h : ¬ k0_cond3 i v4 = 1#1) : steps i v4 = 0 := by
  rw [cond3_iff] at h; unfold steps; omega
/-- With a whole block left every row is stepped. -/
theorem steps_full {i : grid0.Coords} {v4 : BitVec 32} (h : ¬ k0_cond2 i v4 = 1#1) : 512 ≤ steps i v4 := by
  rw [cond2_iff] at h; unfold steps; omega
/-- With less than a block left and with something left. -/
theorem cond_or {i : grid0.Coords} {v4 : BitVec 32} (h : ¬ k0_cond2 i v4 = 1#1) : k0_cond3 i v4 = 1#1 := by
  rw [cond2_iff] at h; rw [cond3_iff]; omega

theorem state_none {i : grid0.Coords} {v4 : BitVec 32} {x0 : Vec F S16x128x512 .f32} {x1 x2 : Vec F S128x384 .bf16} {x3 : Vec F S1x384 .f32}
    {x4 : Vec F S1x128 .f32} {h : FVec F S16x128 .f32} (h3 : ¬ k0_cond3 i v4 = 1#1) : h = stateOut i v4 x0 x1 x2 x3 x4 h := by
  unfold stateOut; rw [steps_zero h3]; rfl

theorem block_none {i : grid0.Coords} {v4 : BitVec 32} {x0 : Vec F S16x128x512 .f32} {x1 x2 : Vec F S128x384 .bf16} {x3 : Vec F S1x384 .f32}
    {x4 : Vec F S1x128 .f32} {x5 : Vec F S16x128 .i32} {h : FVec F S16x128 .f32} {M : Memref sig .tc .vmem S512x16x128 .f32} {f : BufTy.Contents (Elt F) M.view.ty}
    (h3 : ¬ k0_cond3 i v4 = 1#1) :
    M.view.read (Elt F) (M.view.writes (Elt F) f [⟨Rect.unit ![0, 0, 0] S512x16x128.size inb_S512x16x128_S512x16x128_0_0_0, k0_pay2⟩])
      = blockOut i v4 x0 x1 x2 x3 x4 x5 h := by
  refine (reread M f _ rfl).trans ?_
  unfold blockOut; rw [steps_zero h3]; rfl

set_option maxHeartbeats 8000000 in
/-- The body at point `i`: from the blocks of the six inputs, the state and the table, to the block and the state it leaves. -/
theorem run (c : Dev nD) (i : grid0.Coords) (arg2 : Memref sig .tc .vmem S16x128x512 .f32) (harg2 : arg2.IsWhole) (arg3 : Memref sig .tc .vmem S128x384 .bf16) (harg3 : arg3.IsWhole) (arg4 : Memref sig .tc .vmem S128x384 .bf16) (harg4 : arg4.IsWhole) (arg5 : Memref sig .tc .vmem S1x384 .f32) (harg5 : arg5.IsWhole) (arg6 : Memref sig .tc .vmem S1x128 .f32) (harg6 : arg6.IsWhole) (arg7 : Memref sig .tc .vmem S16x128 .i32) (harg7 : arg7.IsWhole) (arg8 : Memref sig .tc .vmem S512x16x128 .f32) (harg8 : arg8.IsWhole) (arg9 : Memref sig .tc .vmem S16x128 .f32) (harg9 : arg9.IsWhole) (arg10 : Memref sig .tc .vmem S512x16x384 .f32) (harg10 : arg10.IsWhole)
    (x0 : Vec F S16x128x512 .f32) (x1 : Vec F S128x384 .bf16) (x2 : Vec F S128x384 .bf16) (x3 : Vec F S1x384 .f32) (x4 : Vec F S1x128 .f32) (x5 : Vec F S16x128 .i32) (xt : TbBuf (F := F) c tbM) (h : Vec F S16x128 .f32) (d6 : Vec F S512x16x128 .f32) (d10 : Vec F S512x16x384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare h ∗ owns (c : Thread nD τ) arg10 fullShare d10 ∗ tbPt c tbM xt
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (blockOut i (word c xt) x0 x1 x2 x3 x4 x5 (stateIn i h))
            ∗ owns (c : Thread nD τ) arg9 fullShare (stateOut i (word c xt) x0 x1 x2 x3 x4 (stateIn i h))
            ∗ (∃ d, owns (c : Thread nD τ) arg10 fullShare d) ∗ tbPt c tbM xt) -∗ K ⟨⟩))
      ⊢ wp frame (wpE (defs₀ (F := F)) Variants.none c none) E (cc0__gru_block_kernel i tbM htbM arg2 harg2 arg3 harg3 arg4 harg4 arg5 harg5 arg6 harg6 arg7 harg7 arg8 harg8 arg9 harg9 arg10 harg10) K := by
  have hchk := chk1 i (word c xt)
  have hn : 8 * Scf.trips (k0_t1_loop i (word c xt)).lb (k0_t1_loop i (word c xt)).ub (k0_t1_loop i (word c xt)).st = steps i (word c xt) :=
    congrArg (8 * ·) (trips1 i (word c xt))
  have e4 := (pay37_eq _).trans (load_whole harg4 x2 inb_S128x384_S128x384_0_0)
  have e6 := (pay38_eq _).trans (load_whole harg6 x4 inb_S1x128_S1x128_0_0)
  have e7 := (pay39_eq (F := F) _).trans (load_whole harg7 x5 inb_S16x128_S16x128_0_0)
  have e9 := load_whole harg9 h inb_S16x128_S16x128_0_0
  have p36 := pay36_congr (load_whole harg2 x0 inb_S16x128x512_S16x128x512_0_0_0) (load_whole harg3 x1 inb_S128x384_S128x384_0_0) (load_whole harg5 x3 inb_S1x384_S1x384_0_0)
  have eX := fun f => reread arg10 f inb_S512x16x384_S512x16x384_0_0_0 p36
  have eE := fun f => reread arg8 f inb_S512x16x128_S512x16x128_0_0_0 (rfl : (k0_pay2 : FVec F S512x16x128 .f32) = k0_pay2)
  have e1 := fun f => reread arg9 f inb_S16x128_S16x128_0_0 (rfl : (k0_pay1 : FVec F S16x128 .f32) = k0_pay1)
  simp only [cc0__gru_block_kernel_eq_skeleton]; unfold cc0__gru_block_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, HT, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf9; obtain rfl := harg10.eq_unread hf10
  by_cases hc1 : cond1 i <;> by_cases hc2 : k0_cond2 i (word c xt) = 1#1 <;> by_cases hc3 : k0_cond3 i (word c xt) = 1#1
  all_goals first | exact absurd (cond_or hc2) hc3 | skip
  all_goals
    sl_exec (disch := first | sl_exact hc1 | sl_exact hchk | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr [H6]; swap; · iexact H6
      ipureintro
      first
        | exact block_none hc3
        | refine (read_bufAt ..).trans (block_done (x0 := x0) (x1 := x1) (x2 := x2) (x3 := x3) (x4 := x4) (x5 := x5) e4 e6 e7 (eX _) ?_ hn ?_)
          · first
              | with_reducible exact (stateIn_neg hc1 _).symm
              | exact e9.trans (stateIn_neg hc1 _).symm
              | exact (View.readCov_full _ _ _ _ _).trans (stateIn_pos hc1 _).symm
          · first
              | exact Or.inr (steps_full hc2)
              | exact Or.inl (eE _)
    isplitl [H9]
    · iexists _; isplitr [H9]; swap; · iexact H9
      ipureintro
      first
        | exact ((e1 _).trans (stateIn_pos hc1 _).symm).trans (state_none hc3)
        | exact ((harg9.read_unread h).trans (stateIn_neg hc1 _).symm).trans (state_none hc3)
        | refine (View.read_writes_full _ _ _ _ _).trans (state_done (x0 := x0) (x1 := x1) (x2 := x2) (x3 := x3) (x4 := x4) e4 e6 (eX _) ?_ hn)
          first
            | with_reducible exact (stateIn_neg hc1 _).symm
            | exact e9.trans (stateIn_neg hc1 _).symm
            | exact (View.readCov_full _ _ _ _ _).trans (stateIn_pos hc1 _).symm
    isplitl [H10]
    · iexists _; iexists _; isplitr [H10]; swap; · iexact H10
      ipureintro; rfl
    iexact HT

end Cert.KernelIdeal.Gru
-- ==== Proof.KI.Frame.lean ====
/- The kernel's frame: the pipeline's proof data (the state carried from point to point, the block stored at each), the
   body's obligation at every point, the launch, and what the arrays hold at the end. -/
module

public import proofs.«01_k».proof.Proof.KI.Run
public import Idealize.ShloMosaic.Lib.Claim

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state after `n` points. -/
def stAt (c : Dev nD) : ℕ → FVec F S16x128 .f32
  | 0 => k0_pay1
  | n + 1 => if hn : n < (cfgM m).N then
      stateOut (grid0.coords ⟨n, hn⟩) (word c (tbl m 0)) (iblk m c 0 ⟨n, hn⟩) (iblk m c 1 ⟨n, hn⟩) (iblk m c 2 ⟨n, hn⟩) (iblk m c 3 ⟨n, hn⟩) (iblk m c 4 ⟨n, hn⟩) (stAt c n)
    else stAt c n

theorem stAt_succ (c : Dev nD) (t : Fin (cfgM m).N) :
    stAt m c (t.val + 1) = stateOut (grid0.coords t) (word c (tbl m 0)) (iblk m c 0 t) (iblk m c 1 t) (iblk m c 2 t) (iblk m c 3 t) (iblk m c 4 t) (stAt m c t.val) :=
  dif_pos t.isLt

/-- The block stored at point `t`. -/
def blkAt (c : Dev nD) (t : Fin (cfgM m).N) : FVec F S512x16x128 .f32 :=
  blockOut (grid0.coords t) (word c (tbl m 0)) (iblk m c 0 t) (iblk m c 1 t) (iblk m c 2 t) (iblk m c 3 t) (iblk m c 4 t) (iblk m c 5 t) (stAt m c t.val)

/-- What the body is handed beside the windows before point `n`: the state's buffer at the state (anything, before the
    first), the other scratch buffer and the generator register at anything, the table. -/
def PhiS (c : Dev nD) : ℕ → sProp 𝕄
  | 0 => iprop(Pipeline.ΦA spec0 c ∗ Pipeline.ΦT pre0 (tbl m) c)
  | n + 1 => iprop(iprop(iprop(owns (c : Thread nD τ) scH fullShare (stAt m c (n + 1)) ∗ (∃ d, owns (c : Thread nD τ) scX fullShare d)) ∗ (∃ r, prngReg c r)) ∗ Pipeline.ΦT pre0 (tbl m) c)

/-- Either way the state's buffer holds something that makes the body start from the state. -/
theorem PhiS_open (c : Dev nD) (t : Fin (cfgM m).N) :
    PhiS m c t.val ⊢ iprop((∃ h, ⌜stateIn (grid0.coords t) h = stAt m c t.val⌝ ∗ owns (c : Thread nD τ) scH fullShare h)
      ∗ (∃ d, owns (c : Thread nD τ) scX fullShare d) ∗ (∃ r, prngReg c r) ∗ tbPt c tbM (tbl m 0)) := by
  rw [← PhiT_eq]
  have h0 := cond1_iff t
  generalize grid0.coords t = i at h0 ⊢
  generalize t.val = n at h0 ⊢
  cases n with
  | zero =>
    rw [show PhiS m c 0 = iprop(Pipeline.ΦA spec0 c ∗ Pipeline.ΦT pre0 (tbl m) c) from rfl, PhiA_eq]
    iintro ⟨⟨⟨⟨%h, HH⟩, HX⟩, Hg⟩, HT⟩
    isplitl [HH]
    · iexists h; isplitr
      · ipureintro; exact stateIn_pos (h0.mpr rfl) h
      iexact HH
    isplitl [HX]; · iexact HX
    isplitl [Hg]; · iexact Hg
    iexact HT
  | succ n =>
    rw [show PhiS m c (n + 1) = iprop(iprop(iprop(owns (c : Thread nD τ) scH fullShare (stAt m c (n + 1)) ∗ (∃ d, owns (c : Thread nD τ) scX fullShare d)) ∗ (∃ r, prngReg c r)) ∗ Pipeline.ΦT pre0 (tbl m) c) from rfl]
    iintro ⟨⟨⟨HH, HX⟩, Hg⟩, HT⟩
    isplitl [HH]
    · iexists _; isplitr
      swap; · iexact HH
      ipureintro; exact stateIn_neg (fun h => Nat.succ_ne_zero n (h0.mp h)) _
    isplitl [HX]; · iexact HX
    isplitl [Hg]; · iexact Hg
    iexact HT

/-- The pipeline's proof data: each input window's buffer at its block, the output's at the block stored. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkAt m c t
  Φ t := PhiS m c t.val
  q _ := fullShare
  owed _ := 0

theorem A_eq (c : Dev nD) (w : Fin (cfgM m).W) : (dats m 0 c).A w = V m c (Pipeline.arrRef spec0 w) := by
  dsimp only [dats]

/-! What the body leaves in each window, and what it finds in each input window: its block. -/

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = blkAt m c t := by dsimp only [dats]; try rfl
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgM m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

/-- The body at point `t`'s slots. -/
abbrev bodyAt (t : Fin (cfgM m).N) : Prog (TpuEff nD τ sig (Elt F) Λ₀ .tc) PUnit :=
  cc0__gru_block_kernel (F := F) (grid0.coords t) tbM htbM (ms0 m t) (hs0 m t) (ms1 m t) (hs1 m t) (ms2 m t) (hs2 m t) (ms3 m t) (hs3 m t) (ms4 m t) (hs4 m t)
    (ms5 m t) (hs5 m t) (ms6 m t) (hs6 m t) scH (Memref.isWhole_whole _) scX (Memref.isWhole_whole _)

set_option maxHeartbeats 4000000 in
/-- The body at any point, by its run. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5]
  rw [show (dats m 0 c).owesAt () t.succ = (dats m 0 c).owesAt () t.castSucc from rfl,
    after0, after1, after2, after3, after4, after5, after6]
  rw [show (dats m 0 c).Φ t.succ = iprop(iprop(iprop(owns (c : Thread nD τ) scH fullShare (stAt m c (t.val + 1)) ∗ (∃ d, owns (c : Thread nD τ) scX fullShare d)) ∗ (∃ r, prngReg c r)) ∗ Pipeline.ΦT pre0 (tbl m) c) from rfl,
    show (dats m 0 c).Φ t.castSucc = PhiS m c t.val from rfl, PhiT_eq, stAt_succ]
  unfold blkAt
  iintro ⟨HP, Ho, ⟨%d0, H0⟩, ⟨%d1, H1⟩, ⟨%d2, H2⟩, ⟨%d3, H3⟩, ⟨%d4, H4⟩, ⟨%d5, H5⟩, ⟨%d6, H6⟩⟩
  ihave HP' := (PhiS_open m c t) $$ HP
  icases HP' with ⟨⟨%h, %hh, HS0⟩, ⟨%dx, HS1⟩, Hg, HT0⟩
  rw [← hh]
  iapply (run c (grid0.coords t) _ (hs0 m t) _ (hs1 m t) _ (hs2 m t) _ (hs3 m t) _ (hs4 m t) _ (hs5 m t) _ (hs6 m t) _ (Memref.isWhole_whole _) _ (Memref.isWhole_whole _)
    (iblk m c 0 t) (iblk m c 1 t) (iblk m c 2 t) (iblk m c 3 t) (iblk m c 4 t) (iblk m c 5 t) (tbl m 0) h _ dx Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HT0]; · iexact HT0
  iintro ⟨H0, H1, H2, H3, H4, H5, H6, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m).N) :
    defs₀ (F := F) .tc (cfgM m).body ((cfgM m).bodyArgs t ((cfgM m).slots t)) = bodyAt m t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row m]
  simp only [not_idle]
  refine triple_restated (sound_body m c t) rfl .rfl fun _ => ?_
  split
  · rename_i heq; exact Bool.noConfusion ((not_idle (tbl m) 6 _).symm.trans heq)
  · exact .rfl

theorem hin (c : Dev nD) : iprop(Pipeline.ΦA spec0 c ∗ Pipeline.ΦT pre0 (tbl m) c) ⊢ (dats m 0 c).Φ 0 := by
  rw [show (dats m 0 c).Φ 0 = iprop(Pipeline.ΦA spec0 c ∗ Pipeline.ΦT pre0 (tbl m) c) from rfl]
  try exact Idealize.SL.BI.Entails.refl _

theorem hout (c : Dev nD) : (dats m 0 c).Φ (Fin.last (cfgM m).N) ⊢ Pipeline.ΦA spec0 c := by
  rw [show (dats m 0 c).Φ (Fin.last (cfgM m).N) = PhiS m c (cfgM m).N from rfl, show (cfgM m).N = 3 + 1 from N_0, PhiA_eq]
  unfold PhiS
  iintro ⟨⟨⟨HS0, HS1⟩, Hg⟩, -⟩
  isplitl [HS0 HS1]
  · isplitl [HS0]
    · iexists _; iexact HS0
    iexact HS1
  iexact Hg

/-- Every other buffer at the end: what the line after the kernel leaves, from the arrays the kernel leaves. -/
abbrev VT (c : Dev nD) (b : Ref sig .tc) : Buf (Elt F) ((c : Thread nD τ).loc b) :=
  Pipeline.afterTail pcfgs (fun _ => adm m) (dats m) 0 (V0 m) [hostOps1] c b

set_option backward.isDefEq.respectTransparency.types false in
set_option maxHeartbeats 800000 in
/-- The launch: every run ends, each array at what its write-backs leave, every other buffer at what the lines around
    the kernel leave, every counter at zero. -/
theorem run_main : θ_run defs (onTc (τ := τ) (main (F := F))) (s₀ m ρ) (fun r => Pipeline.FramePost (Pipeline.pin pcfgs fun _ => adm m) (dats m) 0 (VT m) r ∧ r.2.sem = fun _ => 0) :=
  Pipeline.θ_run_frameP_around_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hin := hin m) (hout := hout m)

/-- An argument that is no array of the pipeline ends as it was. -/
theorem VT_arg (c : Dev nD) (b : Ref sig .tc) (hb : b ∈ ({main_arg1, main_arg2, main_arg3, main_arg4, main_arg5} : Finset (Ref sig .tc))) :
    VT m c b = m ((c : Thread nD τ).loc b) := by
  have h26 : b ≠ main_v26 := by revert b; decide
  have harr : ∀ w, Pipeline.arrRef spec0 w ≠ b := by revert b; decide
  refine Eq.trans ?_ (V_arg m c b (Finset.mem_insert_of_mem hb))
  unfold VT Pipeline.afterTail
  rw [StableHlo.after_of_forall_not_mem (b := Proc.devRef .tc b) _ _ (fun op hop hw => ?_), Pipeline.withArrays_of_ne _ c (V0 m c) _ b harr]
  obtain ⟨ops, hops, hop⟩ := List.mem_flatten.mp hop
  exact h26 (sfx_writes ops hops op hop b hw)

/-- The frame: every run ends, the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).1 0).trans (((dats m 0 c).arrAt_in 0 rfl _).trans ((A_eq m c 0).trans (V_arg m c main_arg0 (by decide)))),
      ((h.1 c).2 main_arg1 (by decide : main_arg1 ∈ Pipeline.restRefs sig spec0)).trans (VT_arg m c main_arg1 (by decide)),
      ((h.1 c).2 main_arg2 (by decide : main_arg2 ∈ Pipeline.restRefs sig spec0)).trans (VT_arg m c main_arg2 (by decide)),
      ((h.1 c).2 main_arg3 (by decide : main_arg3 ∈ Pipeline.restRefs sig spec0)).trans (VT_arg m c main_arg3 (by decide)),
      ((h.1 c).2 main_arg4 (by decide : main_arg4 ∈ Pipeline.restRefs sig spec0)).trans (VT_arg m c main_arg4 (by decide)),
      ((h.1 c).2 main_arg5 (by decide : main_arg5 ∈ Pipeline.restRefs sig spec0)).trans (VT_arg m c main_arg5 (by decide))⟩, h.2⟩) (run_main m ρ)

/-- The result at the end: the transpose of what the kernel's write-backs leave. -/
theorem result_main : θ_run defs (onTc (τ := τ) (main (F := F))) ⟨m, fun _ => 0, ρ⟩ (fun r => ∀ c : Dev nD,
      r.2.mem ((c.tc : Thread nD τ).loc main_v26) = VT m c main_v26) :=
  (θ_run defs _ _).mono (fun _ h c => (h.1 c).2 main_v26 (by decide : main_v26 ∈ Pipeline.restRefs sig spec0)) (run_main m ρ)

/-- That, and the arguments unchanged. -/
theorem result_args : θ_run defs (onTc (τ := τ) (main (F := F))) ⟨m, fun _ => 0, ρ⟩ (fun r => ∀ c : Dev nD,
      r.2.mem ((c.tc : Thread nD τ).loc main_v26) = VT m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2.1 c⟩) (θ_run_and (result_main m ρ) (frame m ρ))

end Cert.KernelIdeal.Gru
-- ==== Proof.KI.Step.lean ====
/- What the kernel's arithmetic computes entry by entry: the projected inputs of a block, one step, the row a step stores. -/
module

public import proofs.«01_k».proof.Proof.KI.Block
public import proofs.«01_k».proof.Proof.Val.Gru

@[expose] public section

set_option maxRecDepth 16384

noncomputable section

namespace Cert.KernelIdeal.Gru

open Idealize.ShloMosaic Idealize.ShloMosaic.TcCoe Cert.KernelIdeal.Gen
open Cert.Gru

/-- The projected inputs of a block: row `t`, sequence `b`, gate row `g`. -/
theorem proj_at (x0 : FVec Ideal S16x128x512 .f32) (x1 : FVec Ideal S128x384 .bf16) (x3 : FVec Ideal S1x384 .f32)
    (t : Fin 512) (b : Fin 16) (g : Fin 384) :
    k0_pay36 x0 x1 x3 (ix3 t b g) = (∑ c : Fin 128, x0 (ix3 b c t) * x1 (ix2 c g)) + x3 (ix2 0 g) := by
  unfold k0_pay36
  pointwise

/-- One step, entry by entry. -/
theorem stepF_at (w : FVec Ideal S128x384 .bf16) (c : FVec Ideal S1x128 .f32) (h : FVec Ideal S16x128 .f32) (x : FVec Ideal S1x16x384 .f32)
    (b : Fin 16) (k : Fin 128) :
    stepF w c h x (ix2 b k)
      = cellT (x (ix3 0 b (gate 0 k)) + ∑ j : Fin 128, h (ix2 b j) * w (ix2 j (gate 0 k)))
          (x (ix3 0 b (gate 1 k)) + ∑ j : Fin 128, h (ix2 b j) * w (ix2 j (gate 1 k)))
          (x (ix3 0 b (gate 2 k)))
          (half * (∑ j : Fin 128, h (ix2 b j) * w (ix2 j (gate 2 k))) + c (ix2 0 k)) (h (ix2 b k)) := by
  have g0 : (⟨k.val, by omega⟩ : Fin 384) = gate 0 k := Fin.ext (by simp [gate])
  unfold stepF k0_pay4 cellT
  rw [← g0]
  pointwise
  rw [ofBits_half]
  rfl

/-- A set bit as a number, -/
theorem one_word : (FloatOps.sitofp .f32 (BitVec.setWidth 32 (BitVec.ofBool true)) : Ideal .f32) = (1 : EReal) := by
  show (((BitVec.setWidth 32 (BitVec.ofBool true)).toInt : ℝ) : EReal) = 1
  rw [show (BitVec.setWidth 32 (BitVec.ofBool true)).toInt = 1 from by decide]
  norm_num

/-- and a clear one. -/
theorem zero_word : (FloatOps.sitofp .f32 (BitVec.setWidth 32 (BitVec.ofBool false)) : Ideal .f32) = (0 : EReal) := by
  show (((BitVec.setWidth 32 (BitVec.ofBool false)).toInt : ℝ) : EReal) = 0
  rw [show (BitVec.setWidth 32 (BitVec.ofBool false)).toInt = 0 from by decide]
  norm_num

/-- The row a step stores: the state where the step's time is before the sequence's length, zero elsewhere. -/
theorem maskRow_at (len : IVec S16x128 32) (t : BitVec 32) (h : FVec Ideal S16x128 .f32) (b : Fin 16) (k : Fin 128) :
    maskRow len t h (ix3 (0 : Fin 1) b k) = if t.toInt < (len (ix2 b k)).toInt then h (ix2 b k) else 0 := by
  unfold maskRow
  pointwise
  by_cases ht : t.toInt < (len (ix2 b k)).toInt
  · rw [if_pos ht, show IntOp.cmpi CmpIPredicate.sgt (len (ix2 b k)) t = BitVec.ofBool (decide (t.toInt < (len (ix2 b k)).toInt)) from rfl, decide_eq_true ht]
    exact (congrArg (h (ix2 b k) * ·) one_word).trans (mul_one _)
  · rw [if_neg ht, show IntOp.cmpi CmpIPredicate.sgt (len (ix2 b k)) t = BitVec.ofBool (decide (t.toInt < (len (ix2 b k)).toInt)) from rfl, decide_eq_false ht]
    exact (congrArg (h (ix2 b k) * ·) zero_word).trans (mul_zero _)

theorem pay1_at (b : Fin 16) (k : Fin 128) : (k0_pay1 : FVec Ideal S16x128 .f32) (ix2 b k) = 0 := by
  unfold k0_pay1
  pointwise

theorem pay2_at (t : Fin 512) (b : Fin 16) (k : Fin 128) : (k0_pay2 : FVec Ideal S512x16x128 .f32) (ix3 t b k) = 0 := by
  unfold k0_pay2
  pointwise

/-! ## The arrays the host lines before the kernel make -/

/-- The factors, stacked. -/
def scaleArr : FVec Ideal S384 .f32 :=
  concatenate S384 0 [⟨S256, broadcastInDim S256 ![] bcast_S_S256 (constant (F := Ideal) S_ .f32 0x3F000000#32)⟩,
    ⟨S128, broadcastInDim S128 ![] bcast_S_S128 (constant (F := Ideal) S_ .f32 0x3F800000#32)⟩] concatenates_S256_S128_S384_d0

theorem scaleArr_at (g : Fin 384) : scaleArr (ix1 g) = scale g := by
  unfold scaleArr scale
  pointwise
  rw [ofBits_half]
  rfl

/-- Scaled, transposed weights. -/
def wArr (w : FVec Ideal S384x128 .f32) : FVec Ideal S128x384 .bf16 :=
  truncf .bf16 (mulf (transpose S128x384 [1, 0] w transposes_S384x128_S128x384_1_0)
    (broadcastInDim S128x384 ![0, 1] bcast_S1x384_S128x384_0_1 (broadcastInDim S1x384 ![1] bcast_S384_S1x384_1 scaleArr))) bitsLt_bf16_f32

theorem wArr_at (w : FVec Ideal S384x128 .f32) (c : Fin 128) (g : Fin 384) : wArr w (ix2 c g) = w (ix2 g c) * scale g := by
  rw [← scaleArr_at]
  unfold wArr
  pointwise

/-- The folded biases. -/
def biasArr (bi bh : FVec Ideal S384 .f32) : FVec Ideal S1x384 .f32 :=
  shapeCast S1x384 (mulf (addf bi (concatenate S384 0 [⟨S256, extractStridedSlice S256 ![0] bh slices_S384_S256_0⟩,
    ⟨S128, broadcastInDim S128 ![] bcast_S_S128 (constant (F := Ideal) S_ .f32 0x00000000#32)⟩] concatenates_S256_S128_S384_d0)) scaleArr) shapeCasts_S384_S1x384

theorem biasArr_at (bi bh : FVec Ideal S384 .f32) (g : Fin 384) :
    biasArr bi bh (ix2 0 g) = bias (fun g => bi (ix1 g)) (fun g => bh (ix1 g)) g := by
  unfold bias
  rw [← scaleArr_at]
  unfold biasArr
  pointwise
  rfl

/-- Half the candidate's recurrent bias. -/
def candArr (bh : FVec Ideal S384 .f32) : FVec Ideal S1x128 .f32 :=
  shapeCast S1x128 (mulf (broadcastInDim S128 ![] bcast_S_S128 (constant (F := Ideal) S_ .f32 0x3F000000#32))
    (extractStridedSlice S128 ![256] bh slices_S384_S128_256)) shapeCasts_S128_S1x128

theorem candArr_at (bh : FVec Ideal S384 .f32) (k : Fin 128) : candArr bh (ix2 0 k) = half * bh (ix1 (gate 2 k)) := by
  unfold candArr
  pointwise
  rw [ofBits_half]
  rfl

/-- The lengths, one row of copies per sequence. -/
def lenArr (len : IVec S16 32) : IVec S16x128 32 :=
  broadcastInDim S16x128 ![0, 1] bcast_S16x1_S16x128_0_1 (broadcastInDim S16x1 ![0] bcast_S16_S16x1_0 len)

theorem lenArr_at (len : IVec S16 32) (b : Fin 16) (k : Fin 128) : lenArr len (ix2 b k) = len (ix1 b) := by
  unfold lenArr
  pointwise

end Cert.KernelIdeal.Gru
-- ==== Proof.KI.Entry.lean ====
/- What the kernel finds: the arrays the host lines before it make, and each window's block of them. -/
module

public import proofs.«01_k».proof.Proof.KI.Frame
public import proofs.«01_k».proof.Proof.KI.Step
public import Idealize.ShloMosaic.Lib.Pipeline.ValueKit
public import Idealize.ShloMosaic.Lib.StableHlo.RunRead

@[expose] public section

set_option maxRecDepth 16384

noncomputable section

namespace Cert.KernelIdeal.Gru

open Idealize.ShloMosaic Idealize.ShloMosaic.TcCoe Idealize.ShloMosaic.StableHlo
open Cert.KernelIdeal.Gen
open Cert.Gru

variable (m : (ℓ : Loc nD τ sig) → Buf (Elt Ideal) ℓ) (c : Dev nD)

/-- The arguments at the arrays' types: the inputs, -/
abbrev argX : FVec Ideal S16x128x2048 .f32 := m ((c.tc : Thread nD τ).loc main_arg0)
/-- the lengths, -/
abbrev argL : IVec S16 32 := m ((c.tc : Thread nD τ).loc main_arg1)
/-- the input weights, -/
abbrev argWi : FVec Ideal S384x128 .f32 := m ((c.tc : Thread nD τ).loc main_arg2)
/-- the recurrent weights, -/
abbrev argWh : FVec Ideal S384x128 .f32 := m ((c.tc : Thread nD τ).loc main_arg3)
/-- the input biases, -/
abbrev argBi : FVec Ideal S384 .f32 := m ((c.tc : Thread nD τ).loc main_arg4)
/-- the recurrent biases. -/
abbrev argBh : FVec Ideal S384 .f32 := m ((c.tc : Thread nD τ).loc main_arg5)

theorem V_v7 : V m c main_v7 = wArr (argWi m c) := by
  simp only [V, V0, List.flatten_cons, List.flatten_nil, List.append_nil]
  after_reads_simp
  rfl

theorem V_v12 : V m c main_v12 = wArr (argWh m c) := by
  simp only [V, V0, List.flatten_cons, List.flatten_nil, List.append_nil]
  after_reads_simp
  rfl

theorem V_v18 : V m c main_v18 = biasArr (argBi m c) (argBh m c) := by
  simp only [V, V0, List.flatten_cons, List.flatten_nil, List.append_nil]
  after_reads_simp
  rfl

theorem V_v22 : V m c main_v22 = candArr (argBh m c) := by
  simp only [V, V0, List.flatten_cons, List.flatten_nil, List.append_nil]
  after_reads_simp
  rfl

theorem V_v24 : V m c main_v24 = lenArr (argL m c) := by
  simp only [V, V0, List.flatten_cons, List.flatten_nil, List.append_nil]
  after_reads_simp
  rfl

theorem index0 : ∀ t : Fin grid0.N, cc0_transform_0 (grid0.coords t) = ![0, 0, t.val] := by decide +kernel
theorem index6 : ∀ t : Fin grid0.N, cc0_transform_6 (grid0.coords t) = ![t.val, 0, 0] := by decide +kernel

/-- The block of inputs at point `t`: time steps `512 t` on. -/
theorem iblk0_at (t : Fin (cfgM m).N) (b : Fin 16) (i : Fin 128) (s : Fin 512) (h : 512 * t.val + s.val < 2048) :
    (iblk m c 0 t : FVec Ideal S16x128x512 .f32) (ix3 b i s) = argX m c (ix3 b i ⟨512 * t.val + s.val, h⟩) := by
  show V m c main_arg0 ((((cfgM m).win 0).blk t).view.emb (ix3 b i s)) = _
  rw [V_arg m c main_arg0 (by decide)]
  refine congrArg (argX m c) ?_
  funext a
  apply Fin.ext
  blk_simp
  show cc0_transform_0 (grid0.coords t) a * S16x128x512.size a + _ = _
  rw [index0 t]
  fin_cases a
  · show 0 * 16 + b.val = b.val; omega
  · show 0 * 128 + i.val = i.val; omega
  · show t.val * 512 + s.val = 512 * t.val + s.val; omega

/-- A block that is its whole array sits in it where it is. -/
theorem whole_at {n : ℕ} {f : Fin n → ℕ} (hf : ∀ a, f a = 0) (a : Fin n) (k x : ℕ) : f a * k + x = x := by
  rw [hf a, Nat.zero_mul, Nat.zero_add]

theorem index1 (i : grid0.Coords) : ∀ a, cc0_transform_1 i a = 0 := by intro a; fin_cases a <;> rfl
theorem index2 (i : grid0.Coords) : ∀ a, cc0_transform_2 i a = 0 := by intro a; fin_cases a <;> rfl
theorem index3 (i : grid0.Coords) : ∀ a, cc0_transform_3 i a = 0 := by intro a; fin_cases a <;> rfl
theorem index4 (i : grid0.Coords) : ∀ a, cc0_transform_4 i a = 0 := by intro a; fin_cases a <;> rfl
theorem index5 (i : grid0.Coords) : ∀ a, cc0_transform_5 i a = 0 := by intro a; fin_cases a <;> rfl

/-- Window 1's block: the scaled input weights. -/
theorem iblk1_eq (t : Fin (cfgM m).N) : (iblk m c 1 t : FVec Ideal S128x384 .bf16) = wArr (argWi m c) := by
  funext j
  show V m c main_v7 ((((cfgM m).win 1).blk t).view.emb j) = _
  rw [V_v7]
  refine congrArg (wArr (argWi m c)) (funext fun a => Fin.ext ?_)
  blk_simp
  exact whole_at (index1 (grid0.coords t)) a _ _

/-- Window 2's block: the scaled recurrent weights. -/
theorem iblk2_eq (t : Fin (cfgM m).N) : (iblk m c 2 t : FVec Ideal S128x384 .bf16) = wArr (argWh m c) := by
  funext j
  show V m c main_v12 ((((cfgM m).win 2).blk t).view.emb j) = _
  rw [V_v12]
  refine congrArg (wArr (argWh m c)) (funext fun a => Fin.ext ?_)
  blk_simp
  exact whole_at (index2 (grid0.coords t)) a _ _

/-- Window 3's block: the folded biases. -/
theorem iblk3_eq (t : Fin (cfgM m).N) : (iblk m c 3 t : FVec Ideal S1x384 .f32) = biasArr (argBi m c) (argBh m c) := by
  funext j
  show V m c main_v18 ((((cfgM m).win 3).blk t).view.emb j) = _
  rw [V_v18]
  refine congrArg (biasArr (argBi m c) (argBh m c)) (funext fun a => Fin.ext ?_)
  blk_simp
  exact whole_at (index3 (grid0.coords t)) a _ _

/-- Window 4's block: half the candidate's recurrent bias. -/
theorem iblk4_eq (t : Fin (cfgM m).N) : (iblk m c 4 t : FVec Ideal S1x128 .f32) = candArr (argBh m c) := by
  funext j
  show V m c main_v22 ((((cfgM m).win 4).blk t).view.emb j) = _
  rw [V_v22]
  refine congrArg (candArr (argBh m c)) (funext fun a => Fin.ext ?_)
  blk_simp
  exact whole_at (index4 (grid0.coords t)) a _ _

/-- Window 5's block: the lengths. -/
theorem iblk5_eq (t : Fin (cfgM m).N) : (iblk m c 5 t : IVec S16x128 32) = lenArr (argL m c) := by
  funext j
  show V m c main_v24 ((((cfgM m).win 5).blk t).view.emb j) = _
  rw [V_v24]
  refine congrArg (lenArr (argL m c)) (funext fun a => Fin.ext ?_)
  blk_simp
  exact whole_at (index5 (grid0.coords t)) a _ _

end Cert.KernelIdeal.Gru
-- ==== Proof.KI.Value.lean ====
/- What the kernel computes: the state carried from block to block is the recurrence's, each block's rows are the masked
   states, and so is the result. -/
module

public import proofs.«01_k».proof.Proof.KI.Entry

@[expose] public section

set_option maxRecDepth 16384

noncomputable section

namespace Cert.KernelIdeal.Gru

open Idealize.ShloMosaic Idealize.ShloMosaic.TcCoe Idealize.ShloMosaic.StableHlo
open Cert.KernelIdeal.Gen
open Cert.Gru

/-! ## The words -/

/-- A word that is not negative, clipped to `[0, 512]`. -/
theorem clip_toNat (x : BitVec 32) (hx : x.toNat < 2 ^ 31) : (Scalar.minsi 512#32 (Scalar.maxsi 0#32 x)).toNat = min 512 x.toNat := by
  simp only [Scalar.minsi, Scalar.maxsi, IntOp.minsi, IntOp.maxsi]
  split <;> split <;> simp_all [BitVec.slt, BitVec.toInt] <;> (try split at *) <;> omega

/-- The first step of block `t`, as the kernel computes it. -/
theorem start_toNat : ∀ t : Fin grid0.N, (Scalar.muli (BitVec.ofNat 32 ((grid0.coords t) 0).val) 512#32).toNat = 512 * t.val := by
  decide +kernel

theorem N_eq : grid0.N = 4 := N_0

/-- Where the longest sequence reaches past step `s` of block `t`, the block runs at least the steps up to `s`. -/
theorem nrem_gt (t : Fin grid0.N) (v : BitVec 32) (s : ℕ) (hs : s < 512) (hv : ((512 * t.val + s : ℕ) : ℤ) < v.toInt) :
    min 512 (s + 1) ≤ nrem (grid0.coords t) v := by
  have ht := start_toNat t
  have hv2 : v.toInt = v.toNat := by
    rw [BitVec.toInt] at hv ⊢
    split at hv <;> rename_i h
    · rw [if_pos h]
    · have := v.isLt; omega
  have hlt : v.toNat < 2 ^ 31 := by
    have := BitVec.toInt_lt (x := v)
    rw [hv2] at this
    norm_num at this
    omega
  unfold nrem nw
  generalize Scalar.muli (BitVec.ofNat 32 ((grid0.coords t) 0).val) 512#32 = o at ht ⊢
  have hsub : (Scalar.subi v o).toNat = v.toNat - o.toNat := BitVec.toNat_sub_of_le (by rw [BitVec.le_def]; omega)
  rw [clip_toNat _ (by omega), hsub, ht]
  omega

/-- The blocks before one the longest sequence reaches are full. -/
theorem steps_full_of_lt (t t' : Fin grid0.N) (v : BitVec 32) (htt : t'.val < t.val) (hv : ((512 * t.val : ℕ) : ℤ) < v.toInt) :
    steps (grid0.coords t') v = 512 := by
  have h1 := nrem_gt t' v 511 (by omega) (by omega)
  have h2 := nrem_le (grid0.coords t') v
  unfold steps
  omega

/-- A block the longest sequence reaches runs its live steps. -/
theorem lt_steps (t : Fin grid0.N) (v : BitVec 32) (s : ℕ) (hs : s < 512) (hv : ((512 * t.val + s : ℕ) : ℤ) < v.toInt) :
    s < steps (grid0.coords t) v := by
  have h1 := nrem_gt t v s hs hv
  unfold steps
  omega

/-- The time of step `s` of block `t`, as the kernel computes it. -/
theorem time_toInt (t : Fin grid0.N) (s : ℕ) (hs : s < 512) :
    (Scalar.muli (BitVec.ofNat 32 ((grid0.coords t) 0).val) 512#32 + BitVec.ofNat 32 s).toInt = ((512 * t.val + s : ℕ) : ℤ) := by
  have ht := start_toNat t
  have h4 : t.val < 4 := N_eq ▸ t.isLt
  have : (Scalar.muli (BitVec.ofNat 32 ((grid0.coords t) 0).val) 512#32 + BitVec.ofNat 32 s).toNat = 512 * t.val + s := by
    rw [BitVec.toNat_add, ht, BitVec.toNat_ofNat]
    omega
  rw [BitVec.toInt_eq_toNat_of_lt (by omega), this]

section Blocks

variable (m : (ℓ : Loc nD τ sig) → Buf (Elt Ideal) ℓ) (c : Dev nD)

/-- The recurrence on the kernel's arguments. -/
def S (n : ℕ) (b : Fin 16) (k : Fin 128) : EReal :=
  state (fun b i t => argX m c (ix3 b i t)) (fun g i => argWi m c (ix2 g i)) (fun g i => argWh m c (ix2 g i))
    (fun g => argBi m c (ix1 g)) (fun g => argBh m c (ix1 g)) n b k

/-- What the recurrence needs: the candidate's recurrent weights and biases are real numbers. -/
structure Real : Prop where
  hw : ∀ k i, IsReal (argWh m c (ix2 (gate 2 k) i))
  hb : ∀ k, IsReal (argBh m c (ix1 (gate 2 k)))

/-- The word the kernel loads is the first sequence's length. -/
theorem word_eq : word c (tbl m 0) = argL m c (ix1 0) := by
  obtain rfl : c = 0 := Subsingleton.elim _ _
  refine Eq.trans ?_ (congrFun (V_arg m 0 main_arg1 (by decide)) (ix1 0))
  show V m 0 main_arg1 _ = V m 0 main_arg1 _
  refine congrArg (V m 0 main_arg1) (funext fun a => ?_)
  fin_cases a
  rfl

/-- The projected inputs of block `t`. -/
theorem proj_block (t : Fin (cfgM m).N) (s : Fin 512) (h : 512 * t.val + s.val < 2048) (b : Fin 16) (g : Fin 384) :
    (k0_pay36 (iblk m c 0 t) (iblk m c 1 t) (iblk m c 3 t) : FVec Ideal S512x16x384 .f32) (ix3 s b g)
      = xinT (fun b i t => argX m c (ix3 b i t)) (fun g i => argWi m c (ix2 g i)) (fun g => argBi m c (ix1 g)) (fun g => argBh m c (ix1 g))
          ⟨512 * t.val + s.val, h⟩ b g := by
  refine (proj_at (iblk m c 0 t) (iblk m c 1 t) (iblk m c 3 t) s b g).trans ?_
  rw [iblk1_eq, iblk3_eq, biasArr_at]
  unfold xinT
  refine congrArg (· + _) (Finset.sum_congr rfl fun i _ => ?_)
  rw [wArr_at]
  exact congrArg (· * _) (iblk0_at m c t b i s h)

/-- A step of block `t` is the recurrence's step. -/
theorem recur_block (hr : Real m c) (t : Fin (cfgM m).N) (s : ℕ) (hs : s < 512) (h : FVec Ideal S16x128 .f32)
    (hh : ∀ b k, h (ix2 b k) = S m c (512 * t.val + s) b k) (b : Fin 16) (k : Fin 128) :
    stepF (iblk m c 2 t) (iblk m c 4 t) h (xrow (k0_pay36 (iblk m c 0 t) (iblk m c 1 t) (iblk m c 3 t)) s) (ix2 b k)
      = S m c (512 * t.val + s + 1) b k := by
  have h4 : t.val < 4 := N_eq ▸ t.isLt
  have hlt : 512 * t.val + s < 2048 := by omega
  have hx : ∀ b g, (xrow (k0_pay36 (iblk m c 0 t) (iblk m c 1 t) (iblk m c 3 t)) s : FVec Ideal S1x16x384 .f32) (ix3 0 b g)
      = xinT (fun b i t => argX m c (ix3 b i t)) (fun g i => argWi m c (ix2 g i)) (fun g => argBi m c (ix1 g)) (fun g => argBh m c (ix1 g))
          ⟨512 * t.val + s, hlt⟩ b g := fun b g => by
    have hsv : (Fin.ofNat 512 s : Fin 512) = ⟨s, hs⟩ := Fin.ext (Nat.mod_eq_of_lt hs)
    unfold xrow
    rw [hsv]
    exact proj_block m c t ⟨s, hs⟩ hlt b g
  have hh' : (fun b k => h (ix2 b k)) = S m c (512 * t.val + s) := funext fun b => funext fun k => hh b k
  refine (stepF_at (iblk m c 2 t) (iblk m c 4 t) h _ b k).trans ?_
  rw [iblk2_eq, iblk4_eq]
  simp only [hx, wArr_at, candArr_at]
  refine Eq.trans ?_ ((stepT_eq (fun b i t => argX m c (ix3 b i t)) (fun g i => argWi m c (ix2 g i)) (fun g i => argWh m c (ix2 g i))
    (fun g => argBi m c (ix1 g)) (fun g => argBh m c (ix1 g)) ⟨512 * t.val + s, hlt⟩ (S m c (512 * t.val + s))
    (fun b k => isReal_state _ _ _ _ _ _ b k) hr.hw hr.hb b k).trans ?_)
  · rw [← hh']
    rfl
  · show _ = state _ _ _ _ _ (512 * t.val + s + 1) b k
    rw [state, show (Fin.ofNat 2048 (512 * t.val + s) : Fin 2048) = ⟨512 * t.val + s, hlt⟩ from Fin.ext (Nat.mod_eq_of_lt hlt)]
    rfl

/-- The state before each step of block `t`, when the block starts from the recurrence's. -/
theorem stateAt_block (hr : Real m c) (t : Fin (cfgM m).N) (h : FVec Ideal S16x128 .f32)
    (hh : ∀ b k, h (ix2 b k) = S m c (512 * t.val) b k) : ∀ (s : ℕ), s ≤ 512 → ∀ b k,
    stateAt (iblk m c 2 t) (iblk m c 4 t) (k0_pay36 (iblk m c 0 t) (iblk m c 1 t) (iblk m c 3 t)) h s (ix2 b k) = S m c (512 * t.val + s) b k
  | 0, _, b, k => hh b k
  | s + 1, hs, b, k => recur_block m c hr t s (by omega) _ (fun b k => stateAt_block hr t h hh s (by omega) b k) b k

/-- The state carried to a point the longest sequence reaches is the recurrence's. -/
theorem stAt_eq (hr : Real m c) : ∀ (n : ℕ), n < 4 → (0 < n → ((512 * n : ℕ) : ℤ) < (argL m c (ix1 0)).toInt) → ∀ b k,
    stAt m c n (ix2 b k) = S m c (512 * n) b k
  | 0, _, _, b, k => pay1_at b k
  | n + 1, hn, hv, b, k => by
    have hN : n < grid0.N := N_eq ▸ (by omega : n < 4)
    have hN' : n + 1 < grid0.N := N_eq ▸ hn
    have hst : steps (grid0.coords ⟨n, hN⟩) (word c (tbl m 0)) = 512 := by
      rw [word_eq]
      exact steps_full_of_lt ⟨n + 1, hN'⟩ ⟨n, hN⟩ _ (Nat.lt_succ_self n) (hv (Nat.succ_pos n))
    have hs := stAt_succ m c ⟨n, hN⟩
    rw [hs]
    unfold stateOut
    rw [hst]
    exact stateAt_block m c hr ⟨n, hN⟩ _ (stAt_eq hr n (by omega) (fun _ => by have := hv (Nat.succ_pos n); omega)) 512 (le_refl _) b k

/-- The block stored at point `t`: the masked states. -/
theorem blkAt_at (hr : Real m c) (hL : ∀ b, (argL m c (ix1 b)).toInt ≤ (argL m c (ix1 0)).toInt) (t : Fin (cfgM m).N) (s : Fin 512) (b : Fin 16) (k : Fin 128) :
    blkAt m c t (ix3 s b k)
      = if ((512 * t.val + s.val : ℕ) : ℤ) < (argL m c (ix1 b)).toInt then S m c (512 * t.val + s.val + 1) b k else 0 := by
  have h4 : t.val < 4 := N_eq ▸ t.isLt
  have hmask : ∀ h : FVec Ideal S16x128 .f32,
      maskRow (iblk m c 5 t) (Scalar.muli (BitVec.ofNat 32 ((grid0.coords t) 0).val) 512#32 + BitVec.ofNat 32 s.val) h (ix3 (0 : Fin 1) b k)
        = if ((512 * t.val + s.val : ℕ) : ℤ) < (argL m c (ix1 b)).toInt then h (ix2 b k) else 0 := fun h => by
    rw [iblk5_eq, maskRow_at, time_toInt t s.val s.isLt, lenArr_at]
  unfold blkAt blockOut
  refine (blockAt_apply (iblk m c 2 t) (iblk m c 4 t) (iblk m c 5 t) _ (k0_pay36 (iblk m c 0 t) (iblk m c 1 t) (iblk m c 3 t)) _ _ _ (ix3 s b k)).trans ?_
  by_cases hv : ((512 * t.val + s.val : ℕ) : ℤ) < (argL m c (ix1 b)).toInt
  · have hv0 := lt_of_lt_of_le hv (hL b)
    have hlt : s.val < steps (grid0.coords t) (word c (tbl m 0)) := by
      rw [word_eq]
      exact lt_steps t _ s.val s.isLt hv0
    refine (if_pos hlt).trans ((hmask _).trans ?_)
    rw [if_pos hv, if_pos hv]
    exact stateAt_block m c hr t _ (stAt_eq m c hr t.val h4 fun _ => by omega) (s.val + 1) s.isLt b k
  · rw [if_neg hv]
    by_cases hlt : s.val < steps (grid0.coords t) (word c (tbl m 0))
    · exact (if_pos hlt).trans ((hmask _).trans (if_neg hv))
    · exact (if_neg hlt).trans (pay2_at s b k)

/-- The kernel's array at the end: the masked states, time first. -/
def outArr : FVec Ideal S2048x16x128 .f32 :=
  fun j => if ((j 0).val : ℤ) < (argL m c (ix1 (j 1))).toInt then S m c ((j 0).val + 1) (j 1) (j 2) else 0

/-- The output's blocks tile its array. -/
theorem covers6 : ((cfgM m).win 6).Covers := by
  have h : ((cfg0 (F := Ideal) ⟨fun j => match j with | ⟨0, _⟩ => fun _ => 0#32, trivial⟩).win 6).Covers := by decide +kernel
  exact h

theorem outArr_at (t : Fin 2048) (b : Fin 16) (k : Fin 128) :
    outArr m c (ix3 t b k) = if (t.val : ℤ) < (argL m c (ix1 b)).toInt then S m c (t.val + 1) b k else 0 := rfl

/-- Where row `s` of block `t` lies in the array. -/
theorem emb6 (t : Fin (cfgM m).N) (s : Fin 512) (b : Fin 16) (k : Fin 128) (h : 512 * t.val + s.val < 2048) :
    ((((cfgM m).win 6).blk t).view.emb (ix3 s b k) : S2048x16x128.Idx) = ix3 ⟨512 * t.val + s.val, h⟩ b k := by
  funext a
  apply Fin.ext
  blk_simp
  show cc0_transform_6 (grid0.coords t) a * S512x16x128.size a + _ = _
  rw [index6 t]
  fin_cases a
  · show t.val * 512 + s.val = 512 * t.val + s.val; omega
  · show 0 * 16 + b.val = b.val; omega
  · show 0 * 128 + k.val = k.val; omega

/-- Row `s` of block `t` is where it should be. -/
theorem block_at (hr : Real m c) (hL : ∀ b, (argL m c (ix1 b)).toInt ≤ (argL m c (ix1 0)).toInt) (t : Fin (cfgM m).N) (s : Fin 512) (b : Fin 16) (k : Fin 128) :
    blkAt m c t (ix3 s b k) = outArr m c ((((cfgM m).win 6).blk t).view.emb (ix3 s b k)) := by
  have h4 : t.val < 4 := N_eq ▸ t.isLt
  have h : 512 * t.val + s.val < 2048 := by omega
  refine (blkAt_at m c hr hL t s b k).trans (Eq.trans ?_ (congrArg (outArr m c) (emb6 m t s b k h)).symm)
  exact (outArr_at m c ⟨512 * t.val + s.val, h⟩ b k).symm

/-- The array the kernel leaves. -/
theorem arr_eq (hr : Real m c) (hL : ∀ b, (argL m c (ix1 b)).toInt ≤ (argL m c (ix1 0)).toInt) :
    (dats m 0 c).arrAt 6 (cfgM m).N = outArr m c := by
  refine (dats m 0 c).arrAt_eq_of_covers 6 _ (covers6 m) fun t _ y => ?_
  blk_simp
  rw [after6]
  obtain ⟨s, b, k, ey⟩ : ∃ (s : Fin 512) (b : Fin 16) (k : Fin 128), (y : S512x16x128.Idx) = ix3 s b k := ⟨_, _, _, eq_ix3 (y : S512x16x128.Idx)⟩
  subst ey
  exact block_at m c hr hL t s b k

/-- The result is the array with time last. -/
theorem transposed_at (A : FVec Ideal S2048x16x128 .f32) (b : Fin 16) (k : Fin 128) (t : Fin 2048) :
    transpose S16x128x2048 [1, 2, 0] A transposes_S2048x16x128_S16x128x2048_1_2_0 (ix3 b k t) = A (ix3 t b k) := by
  pointwise

/-- The result, entry by entry. -/
theorem result_at (hr : Real m c) (hL : ∀ b, (argL m c (ix1 b)).toInt ≤ (argL m c (ix1 0)).toInt) (b : Fin 16) (k : Fin 128) (t : Fin 2048) :
    (VT m c main_v26 : FVec Ideal S16x128x2048 .f32) (ix3 b k t)
      = if (t.val : ℤ) < (argL m c (ix1 b)).toInt then S m c (t.val + 1) b k else 0 := by
  have hA : Pipeline.withArrays (Pipeline.pin pcfgs (fun _ => adm m) 0).spec c (V0 m c)
      (fun w => (dats m 0 c).arrAt w (Pipeline.pin pcfgs (fun _ => adm m) 0).N) (Proc.devRef .tc main_v25) = outArr m c :=
    (Pipeline.withArrays_arr spec0 (by decide) c (V0 m c) (fun w => (dats m 0 c).arrAt w (cfgM m).N) 6).trans (arr_eq m c hr hL)
  unfold VT Pipeline.afterTail
  simp only [List.flatten_cons, List.flatten_nil, List.append_nil]
  after_reads_simp
  rw [hA]
  exact (transposed_at _ b k t).trans (outArr_at m c t b k)

end Blocks

end Cert.KernelIdeal.Gru
-- ==== Proof.Ref.Frame.lean ====
/- The reference's frame: what a buffer that no line writes holds at the end, and the arguments. -/
module

public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.Gru

open Idealize.ShloMosaic Idealize.ShloMosaic.TcCoe Idealize.ShloMosaic.StableHlo
open Idealize.SL Idealize.SL.Sem
open Cert.ReferenceIdeal.Gen Cert.ReferenceIdeal.Value

variable {F : FTy → Type} [FloatOps F]

/-- A stretch of lines leaves alone what is not on the list of what it writes. -/
theorem after_keeps {ops : List (HloOp τ sig (Elt F))} {W : List (Ref sig .tc)}
    (hw : ops.Forall fun op => op.writes ⊆ (W.map (Proc.devRef (τ := τ) .tc)).toFinset) (X : Valuation τ sig (Elt F))
    {b : Ref sig .tc} (hb : b ∉ W) : after ops X (Proc.devRef .tc b) = X (Proc.devRef .tc b) := by
  refine after_of_forall_not_mem ops X fun op hop hm => hb ?_
  obtain ⟨b', hb', he⟩ := List.mem_map.mp (List.mem_toFinset.mp (List.forall_iff_forall_mem.mp hw op hop hm))
  exact Proc.devRef_injective _ he ▸ hb'

/-- Everything one trip of the loop writes. -/
abbrev tripW : List (Ref sig .tc) := condOps_W ++ (while0Ops0_W ++ (while0Ops0_1_W ++ (while0Ops0_2_W ++ while0Ops0_3_W)))

/-- Everything the lines after the loop write. -/
abbrev postW : List (Ref sig .tc) := hostOps0_1_W ++ (hostOps0_2_W ++ hostOps0_3_W)

/-- One trip leaves alone what it does not write. -/
theorem trip_keeps (X : Valuation τ sig (Elt F)) {b : Ref sig .tc} (hb : b ∉ tripW) :
    afterL bodyI (after condOps X) (Proc.devRef .tc b) = X (Proc.devRef .tc b) := by
  simp only [List.mem_append, not_or] at hb
  simp only [afterL_cons, afterL_nil]
  rw [after_keeps while0Ops0_3_writes _ hb.2.2.2.2, after_keeps while0Ops0_2_writes _ hb.2.2.2.1, after_keeps while0Ops0_1_writes _ hb.2.2.1,
    after_keeps while0Ops0_writes _ hb.2.1, after_keeps condOps_writes _ hb.1]

variable (m : (ℓ : Loc nD τ sig) → Buf (Elt F) ℓ) (ρ : Dev nD → PrngReg)

/-- So does any number of trips. -/
theorem atK_keeps (c : Dev nD) {b : Ref sig .tc} (hb : b ∉ tripW) : ∀ k, atK m k c (Proc.devRef .tc b) = entryContents preI m c (Proc.devRef .tc b)
  | 0 => rfl
  | k + 1 => (trip_keeps (atK m k c) hb).trans (atK_keeps c hb k)

/-- A buffer no line writes ends as it was. -/
theorem final_keeps (c : Dev nD) {b : Ref sig .tc} (h0 : b ∉ hostOps0_W) (h1 : b ∉ tripW) (h2 : b ∉ postW) :
    finalContents condOps preI bodyI postI 2048 m c (Proc.devRef .tc b) = m ((c.tc : Thread nD τ).loc b) := by
  have h1' := h1
  simp only [List.mem_append, not_or] at h2 h1'
  simp only [afterL_cons, afterL_nil]
  rw [after_keeps hostOps0_3_writes _ h2.2.2, after_keeps hostOps0_2_writes _ h2.2.1, after_keeps hostOps0_1_writes _ h2.1,
    after_keeps condOps_writes _ h1'.1]
  refine (atK_keeps m c h1 2048).trans ?_
  simp only [afterL_cons, afterL_nil]
  rw [after_keeps hostOps0_writes _ h0]

/-- Every run of the reference ends with its arguments unchanged, and with the result the fold of its lines gives. -/
theorem run_args : θ_run defs (onTc (τ := τ) (main (F := F))) ⟨m, fun _ => 0, ρ⟩ (fun r => ∀ c : Dev nD,
      r.2.mem ((c.tc : Thread nD τ).loc main_v18) = finalContents condOps preI bodyI postI 2048 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c main_v18 rfl,
      (h c main_arg0 rfl).trans (final_keeps m c (by decide) (by decide) (by decide)),
      (h c main_arg1 rfl).trans (final_keeps m c (by decide) (by decide) (by decide)),
      (h c main_arg2 rfl).trans (final_keeps m c (by decide) (by decide) (by decide)),
      (h c main_arg3 rfl).trans (final_keeps m c (by decide) (by decide) (by decide)),
      (h c main_arg4 rfl).trans (final_keeps m c (by decide) (by decide) (by decide)),
      (h c main_arg5 rfl).trans (final_keeps m c (by decide) (by decide) (by decide))⟩) (run_fold m ρ)

/-- The reference's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (run_args m ρ)

end Cert.ReferenceIdeal.Gru
-- ==== Proof.Ref.Step.lean ====
/- One trip of the reference's loop: the new state it makes is the textbook step. -/
module

public import proofs.«01_k».proof.Proof.Ref.Frame
public import proofs.«01_k».proof.Proof.Val.Gru
public import Idealize.ShloMosaic.Lib.Pointwise

@[expose] public section

set_option maxRecDepth 16384

noncomputable section

namespace Cert.ReferenceIdeal.Gru

open Idealize.ShloMosaic Idealize.ShloMosaic.TcCoe Idealize.ShloMosaic.StableHlo
open Cert.ReferenceIdeal.Gen Cert.ReferenceIdeal.Value
open Cert.Gru

/-- The projected state, gate by gate. -/
theorem gh_at (V0 : Valuation τ sig (Elt Ideal)) (w : FVec Ideal S384x128 .f32) (bh : FVec Ideal S384 .f32)
    (h : FVec Ideal S16x128 .f32)
    (hw : V0 (Proc.devRef .tc main_v8_1) = w) (hb : V0 (Proc.devRef .tc main_v8_2) = bh) (hh : V0 (Proc.devRef .tc main_v8_4) = h)
    (b : Fin 16) (g : Fin 384) :
    (res_main_while0b_v24 V0 : FVec Ideal S16x384 .f32) (ix2 b g)
      = rec (fun g c => w (ix2 g c)) (fun g => bh (ix1 g)) (fun b k => h (ix2 b k)) b g := by
  unfold res_main_while0b_v24 Cert.Gru.rec
  rw [hw, hb, hh]
  pointwise

/-- The loop's counter as a number. -/
theorem ctr_toInt (n : ℕ) (hn : n < 2048) : (Scf.iv 0#32 1#32 n).toInt = n := by
  have : ∀ n : Fin 2048, (Scf.iv 0#32 1#32 n.val).toInt = n.val := by decide +kernel
  exact this ⟨n, hn⟩

/-- The clamped start of a one-row slice of the projected inputs is the start, where it is in range. -/
theorem clamp (st : Fin 3 → Int) (a : Fin 3) (n : ℕ) (hs : st a = n) (hn : n + S1x16x384.size a ≤ S2048x16x384.size a) :
    Host.clampedStart S2048x16x384 S1x16x384 rfl st a = n :=
  Host.clampedStart_of_le (s := S2048x16x384) (t := S1x16x384) rfl st a n hs hn

/-- A one-row slice of the projected inputs, as its row. -/
theorem row_at (X : FVec Ideal S2048x16x384 .f32) (st : Fin 3 → Int) (n : ℕ) (hn : n < 2048) (h0 : st 0 = n) (h1 : st 1 = 0) (h2 : st 2 = 0)
    (b : Fin 16) (g : Fin 384) :
    shapeCast S16x384 (Host.dynamicSlice S1x16x384 X st sliceFits_S2048x16x384_S1x16x384) shapeCasts_S1x16x384_S16x384 (ix2 b g)
      = X (ix3 (⟨n, hn⟩ : Fin 2048) b g) := by
  pointwise
  have e0 := clamp st 0 n h0 hn
  have e1 := clamp st 1 0 h1 (by decide)
  have e2 := clamp st 2 0 h2 (by decide)
  simp only [e0, e1, e2, Nat.zero_add]

/-- The row of projected inputs a trip reads. -/
theorem xi_at (V0 : Valuation τ sig (Elt Ideal)) (X : FVec Ideal S2048x16x384 .f32) (n : ℕ) (hn : n < 2048)
    (hX : V0 (Proc.devRef .tc main_v8_0) = X) (hc : V0 (Proc.devRef .tc main_v8_3) = fun _ => Scf.iv 0#32 1#32 n)
    (b : Fin 16) (g : Fin 384) :
    (res_main_while0b_v19 V0 : FVec Ideal S16x384 .f32) (ix2 b g) = X (ix3 (⟨n, hn⟩ : Fin 2048) b g) := by
  unfold res_main_while0b_v19
  rw [hX, hc]
  refine row_at X _ n hn ?_ rfl rfl b g
  exact ctr_toInt n hn

/-- What a trip reads, at the arrays' types: the row of projected inputs, -/
abbrev xiV (V0 : Valuation τ sig (Elt Ideal)) : FVec Ideal S16x384 .f32 := res_main_while0b_v19 V0
/-- the projected state, -/
abbrev ghV (V0 : Valuation τ sig (Elt Ideal)) : FVec Ideal S16x384 .f32 := res_main_while0b_v24 V0
/-- the state, -/
abbrev hV (V0 : Valuation τ sig (Elt Ideal)) : FVec Ideal S16x128 .f32 := V0 (Proc.devRef .tc main_v8_4)
/-- the update gate it computes, -/
abbrev zV (V0 : Valuation τ sig (Elt Ideal)) : FVec Ideal S16x128 .f32 := res_main_while0b_v44 V0
/-- and the new state. -/
abbrev hV' (V0 : Valuation τ sig (Elt Ideal)) : FVec Ideal S16x128 .f32 := res_main_while0b_v52 V0

/-- The update gate is the logistic function of its pre-activation. -/
theorem z_at (V0 : Valuation τ sig (Elt Ideal)) (b : Fin 16) (k : Fin 128) :
    zV V0 (ix2 b k) = Ideal.logistic (xiV V0 (ix2 b (gate 1 k)) + ghV V0 (ix2 b (gate 1 k))) := by
  unfold zV res_main_while0b_v44
  pointwise
  rfl

/-- The new state is the textbook cell of what the trip reads. -/
theorem h_at (V0 : Valuation τ sig (Elt Ideal)) (b : Fin 16) (k : Fin 128) :
    hV' V0 (ix2 b k)
      = cell (xiV V0 (ix2 b (gate 0 k)) + ghV V0 (ix2 b (gate 0 k))) (xiV V0 (ix2 b (gate 1 k)) + ghV V0 (ix2 b (gate 1 k)))
        (xiV V0 (ix2 b (gate 2 k))) (ghV V0 (ix2 b (gate 2 k))) (hV V0 (ix2 b k)) := by
  have g0 : (⟨k.val, by omega⟩ : Fin 384) = gate 0 k := Fin.ext (by simp [gate])
  have hz := z_at V0 b k
  unfold cell
  rw [← hz, ← g0]
  unfold hV' res_main_while0b_v52
  pointwise
  rfl

/-- The new state after trip `n`, from the arrays the loop carries. -/
theorem step_at (V0 : Valuation τ sig (Elt Ideal)) (X : FVec Ideal S2048x16x384 .f32) (w : FVec Ideal S384x128 .f32)
    (bh : FVec Ideal S384 .f32) (h : FVec Ideal S16x128 .f32) (n : ℕ) (hn : n < 2048)
    (hX : V0 (Proc.devRef .tc main_v8_0) = X) (hw : V0 (Proc.devRef .tc main_v8_1) = w) (hb : V0 (Proc.devRef .tc main_v8_2) = bh)
    (hc : V0 (Proc.devRef .tc main_v8_3) = fun _ => Scf.iv 0#32 1#32 n) (hh : V0 (Proc.devRef .tc main_v8_4) = h)
    (b : Fin 16) (k : Fin 128) :
    hV' V0 (ix2 b k)
      = stepOf (fun g c => w (ix2 g c)) (fun g => bh (ix1 g)) (fun b g => X (ix3 (⟨n, hn⟩ : Fin 2048) b g)) (fun b k => h (ix2 b k)) b k := by
  have e1 : ∀ g, rec (fun g c => w (ix2 g c)) (fun g => bh (ix1 g)) (fun b k => h (ix2 b k)) b g = ghV V0 (ix2 b g) :=
    fun g => (gh_at V0 w bh h hw hb hh b g).symm
  have e2 : ∀ g, X (ix3 (⟨n, hn⟩ : Fin 2048) b g) = xiV V0 (ix2 b g) := fun g => (xi_at V0 X n hn hX hc b g).symm
  have e3 : h (ix2 b k) = hV V0 (ix2 b k) := congrFun hh.symm (ix2 b k)
  rw [h_at]
  unfold stepOf
  simp only [e1, e2, e3]

end Cert.ReferenceIdeal.Gru
-- ==== Proof.Ref.Value.lean ====
/- What the reference computes: the loop's arrays after any number of trips, and the result. -/
module

public import proofs.«01_k».proof.Proof.Ref.Step
public import Idealize.ShloMosaic.Lib.WordCmp

@[expose] public section

set_option maxRecDepth 16384

noncomputable section

namespace Cert.ReferenceIdeal.Gru

open Idealize.ShloMosaic Idealize.ShloMosaic.TcCoe Idealize.ShloMosaic.StableHlo
open Cert.ReferenceIdeal.Gen Cert.ReferenceIdeal.Value
open Cert.Gru

/-- The projected inputs of the arguments' arrays, as one array, time first. -/
def xArr (x : FVec Ideal S16x128x2048 .f32) (wi : FVec Ideal S384x128 .f32) (bi : FVec Ideal S384 .f32) : FVec Ideal S2048x16x384 .f32 :=
  fun j => xin (fun b c t => x (ix3 b c t)) (fun g c => wi (ix2 g c)) (fun g => bi (ix1 g)) (j 0) (j 1) (j 2)

/-- The state before step `n`, as an array. -/
def hArr (x : FVec Ideal S16x128x2048 .f32) (wi wh : FVec Ideal S384x128 .f32) (bi bh : FVec Ideal S384 .f32) (n : ℕ) : FVec Ideal S16x128 .f32 :=
  fun j => state (fun b c t => x (ix3 b c t)) (fun g c => wi (ix2 g c)) (fun g c => wh (ix2 g c)) (fun g => bi (ix1 g)) (fun g => bh (ix1 g)) n (j 0) (j 1)

/-- The states' array after `n` steps: the state after step `t` in row `t`, zero in the rows not yet written. -/
def oArr (x : FVec Ideal S16x128x2048 .f32) (wi wh : FVec Ideal S384x128 .f32) (bi bh : FVec Ideal S384 .f32) (n : ℕ) : FVec Ideal S2048x16x128 .f32 :=
  fun j => if (j 0).val < n then hArr x wi wh bi bh ((j 0).val + 1) (ix2 (j 1) (j 2)) else 0

/-- A row already written. -/
theorem oArr_at (x : FVec Ideal S16x128x2048 .f32) (wi wh : FVec Ideal S384x128 .f32) (bi bh : FVec Ideal S384 .f32) {n : ℕ} {t : Fin 2048}
    (ht : t.val < n) (b : Fin 16) (k : Fin 128) :
    oArr x wi wh bi bh n (ix3 t b k)
      = state (fun b c t => x (ix3 b c t)) (fun g c => wi (ix2 g c)) (fun g c => wh (ix2 g c)) (fun g => bi (ix1 g)) (fun g => bh (ix1 g)) (t.val + 1) b k :=
  if_pos ht

/-- The lines before the loop make the projected inputs' array. -/
theorem xArr_eq (x : FVec Ideal S16x128x2048 .f32) (wi : FVec Ideal S384x128 .f32) (bi : FVec Ideal S384 .f32) :
    transpose S2048x16x384 [1, 0, 2]
      (addf (Host.dotGeneral dot_S16x2048x128_S384x128_S16x2048x384_2_1_01_0_n_n none
          (transpose S16x2048x128 [0, 2, 1] x transposes_S16x128x2048_S16x2048x128_0_2_1) wi)
        (broadcastInDim S16x2048x384 ![0, 1, 2] bcast_S1x1x384_S16x2048x384_0_1_2 (broadcastInDim S1x1x384 ![2] bcast_S384_S1x1x384_2 bi)))
      transposes_S16x2048x384_S2048x16x384_1_0_2 = xArr x wi bi := by
  funext j
  rw [eq_ix3 j]
  unfold xArr xin
  pointwise

/-- The loop's state starts at zero, -/
theorem hArr_zero (x : FVec Ideal S16x128x2048 .f32) (wi wh : FVec Ideal S384x128 .f32) (bi bh : FVec Ideal S384 .f32) :
    broadcastInDim S16x128 ![] bcast_S_S16x128 (constant (F := Ideal) S_ .f32 0x00000000#32) = hArr x wi wh bi bh 0 := by
  funext j
  rw [eq_ix2 j]
  unfold hArr state
  pointwise

/-- and its states' array too. -/
theorem oArr_zero (x : FVec Ideal S16x128x2048 .f32) (wi wh : FVec Ideal S384x128 .f32) (bi bh : FVec Ideal S384 .f32) :
    broadcastInDim S2048x16x128 ![] bcast_S_S2048x16x128 (constant (F := Ideal) S_ .f32 0x00000000#32) = oArr x wi wh bi bh 0 := by
  funext j
  rw [eq_ix3 j]
  unfold oArr
  rw [if_neg (Nat.not_lt_zero _)]
  pointwise

section Entry

variable (m : (ℓ : Loc nD τ sig) → Buf (Elt Ideal) ℓ) (c : Dev nD)

/-- The loop starts with the projected inputs, -/
theorem entry_x : entryContents preI m c (Proc.devRef .tc main_v8_0)
    = xArr (m ((c.tc : Thread nD τ).loc main_arg0)) (m ((c.tc : Thread nD τ).loc main_arg2)) (m ((c.tc : Thread nD τ).loc main_arg4)) := by
  simp only [entryContents, afterL_cons, afterL_nil]
  after_reads_simp
  exact xArr_eq _ _ _

/-- the recurrent weights, -/
theorem entry_w : entryContents preI m c (Proc.devRef .tc main_v8_1) = m ((c.tc : Thread nD τ).loc main_arg3) := by
  simp only [entryContents, afterL_cons, afterL_nil]
  after_reads_simp
  rfl

/-- the recurrent bias, -/
theorem entry_b : entryContents preI m c (Proc.devRef .tc main_v8_2) = m ((c.tc : Thread nD τ).loc main_arg5) := by
  simp only [entryContents, afterL_cons, afterL_nil]
  after_reads_simp
  rfl

/-- the counter at zero, -/
theorem entry_c : entryContents preI m c (Proc.devRef .tc main_v8_3) = fun _ => Scf.iv 0#32 1#32 0 := by
  simp only [entryContents, afterL_cons, afterL_nil]
  after_reads_simp
  rfl

/-- the zero state, -/
theorem entry_h (x : FVec Ideal S16x128x2048 .f32) (wi wh : FVec Ideal S384x128 .f32) (bi bh : FVec Ideal S384 .f32) :
    entryContents preI m c (Proc.devRef .tc main_v8_4) = hArr x wi wh bi bh 0 := by
  simp only [entryContents, afterL_cons, afterL_nil]
  after_reads_simp
  exact hArr_zero x wi wh bi bh

/-- and no row written. -/
theorem entry_o (x : FVec Ideal S16x128x2048 .f32) (wi wh : FVec Ideal S384x128 .f32) (bi bh : FVec Ideal S384 .f32) :
    entryContents preI m c (Proc.devRef .tc main_v8_5) = oArr x wi wh bi bh 0 := by
  simp only [entryContents, afterL_cons, afterL_nil]
  after_reads_simp
  exact oArr_zero x wi wh bi bh

end Entry

/-- The clamped start of a one-row update of the states' array is the start, where it is in range. -/
theorem clampO (st : Fin 3 → Int) (a : Fin 3) (n : ℕ) (hs : st a = n) (hn : n + S1x16x128.size a ≤ S2048x16x128.size a) :
    Host.clampedStart S2048x16x128 S1x16x128 rfl st a = n :=
  Host.clampedStart_of_le (s := S2048x16x128) (t := S1x16x128) rfl st a n hs hn

/-- Writing one row of the states' array. -/
theorem upd_at (O : FVec Ideal S2048x16x128 .f32) (u : FVec Ideal S16x128 .f32) (st : Fin 3 → Int) (n : ℕ) (hn : n < 2048)
    (h0 : st 0 = n) (h1 : st 1 = 0) (h2 : st 2 = 0) (t : Fin 2048) (b : Fin 16) (k : Fin 128) :
    Host.dynamicUpdateSlice O (broadcastInDim S1x16x128 ![1, 2] bcast_S16x128_S1x16x128_1_2 u) st updateFits_S2048x16x128_S1x16x128 (ix3 t b k)
      = if t.val = n then u (ix2 b k) else O (ix3 t b k) := by
  pointwise
  have e0 := clampO st 0 n h0 hn
  have e1 := clampO st 1 0 h1 (by decide)
  have e2 := clampO st 2 0 h2 (by decide)
  simp only [e0, e1, e2, Nat.sub_zero]
  by_cases ht : t.val = n
  · rw [dif_pos (by omega), if_pos ht]
  · rw [dif_neg (by omega), if_neg ht]

/-- What the loop's arrays hold after `n` trips. -/
structure Inv (x : FVec Ideal S16x128x2048 .f32) (wi wh : FVec Ideal S384x128 .f32) (bi bh : FVec Ideal S384 .f32)
    (V : Valuation τ sig (Elt Ideal)) (n : ℕ) : Prop where
  hx : V (Proc.devRef .tc main_v8_0) = xArr x wi bi
  hw : V (Proc.devRef .tc main_v8_1) = wh
  hb : V (Proc.devRef .tc main_v8_2) = bh
  hc : V (Proc.devRef .tc main_v8_3) = fun _ => Scf.iv 0#32 1#32 n
  hh : V (Proc.devRef .tc main_v8_4) = hArr x wi wh bi bh n
  ho : V (Proc.devRef .tc main_v8_5) = oArr x wi wh bi bh n

section Trips

variable (x : FVec Ideal S16x128x2048 .f32) (wi wh : FVec Ideal S384x128 .f32) (bi bh : FVec Ideal S384 .f32)

/-- The new state of trip `n` is the state before step `n + 1`. -/
theorem new_state {V : Valuation τ sig (Elt Ideal)} {n : ℕ} (hn : n < 2048) (h : Inv x wi wh bi bh V n) :
    hV' V = hArr x wi wh bi bh (n + 1) := by
  funext j
  rw [eq_ix2 j]
  refine (step_at V _ _ _ _ n hn h.hx h.hw h.hb h.hc h.hh (j 0) (j 1)).trans ?_
  unfold hArr
  rw [state, show (Fin.ofNat 2048 n : Fin 2048) = ⟨n, hn⟩ from Fin.ext (Nat.mod_eq_of_lt hn)]
  rfl

/-- One trip takes the arrays from `n` trips to `n + 1`. -/
theorem inv_step {V : Valuation τ sig (Elt Ideal)} {n : ℕ} (hn : n < 2048) (h : Inv x wi wh bi bh V n) :
    Inv x wi wh bi bh (STEP V) (n + 1) where
  hx := (STEP_main_v8_0 V).trans h.hx
  hw := (STEP_main_v8_1 V).trans h.hw
  hb := (STEP_main_v8_2 V).trans h.hb
  hc := by
    rw [STEP_main_v8_3, Scf.iv_succ]
    unfold step_main_v8_3
    rw [h.hc]
    rfl
  hh := (STEP_main_v8_4 V).trans (new_state x wi wh bi bh hn h)
  ho := by
    rw [STEP_main_v8_5]
    unfold step_main_v8_5
    rw [h.ho, h.hc]
    funext j
    rw [eq_ix3 j]
    refine (upd_at (oArr x wi wh bi bh n) (hV' V) _ n hn (ctr_toInt n hn) rfl rfl (j 0) (j 1) (j 2)).trans ?_
    rw [new_state x wi wh bi bh hn h]
    show (if (j 0).val = n then _ else if (j 0).val < n then _ else _) = if (j 0).val < n + 1 then _ else _
    rcases lt_trichotomy (j 0).val n with h1 | h1 | h1
    · rw [if_neg (Nat.ne_of_lt h1), if_pos h1, if_pos (Nat.lt_succ_of_lt h1)]
    · rw [if_pos h1, if_pos (by omega)]
      show _ = hArr x wi wh bi bh ((j 0).val + 1) _
      rw [h1]
      rfl
    · rw [if_neg (Nat.ne_of_gt h1), if_neg (by omega), if_neg (by omega)]

end Trips

/-- The word of a step reads back as the step. -/
theorem toInt_ofNat_lt {t : ℕ} (ht : t < 2048) : (BitVec.ofNat 32 t).toInt = t := by
  rw [BitVec.toInt_eq_toNat_of_lt (by rw [BitVec.toNat_ofNat]; omega), BitVec.toNat_ofNat, Nat.mod_eq_of_lt (by omega)]

/-- The lines after the loop: the states' rows where the step is before the sequence's length, zero elsewhere. -/
theorem masked_at (O : FVec Ideal S2048x16x128 .f32) (len : IVec S16 32) (b : Fin 16) (k : Fin 128) (t : Fin 2048) :
    transpose S16x128x2048 [0, 2, 1]
      (select
        (broadcastInDim S16x2048x128 ![0, 1, 2] bcast_S16x2048x1_S16x2048x128_0_1_2
          (broadcastInDim S16x2048x1 ![0, 1] bcast_S16x2048_S16x2048x1_0_1
            (cmpi .slt (broadcastInDim S16x2048 ![0, 1] bcast_S1x2048_S16x2048_0_1 (broadcastInDim S1x2048 ![1] bcast_S2048_S1x2048_1 (iotaInDim S2048 32 0)))
              (broadcastInDim S16x2048 ![0, 1] bcast_S16x1_S16x2048_0_1 (broadcastInDim S16x1 ![0] bcast_S16_S16x1_0 len)))))
        (transpose S16x2048x128 [1, 0, 2] O transposes_S2048x16x128_S16x2048x128_1_0_2)
        (broadcastInDim S16x2048x128 ![] bcast_S_S16x2048x128 (constant (F := Ideal) S_ .f32 0x00000000#32)))
      transposes_S16x2048x128_S16x128x2048_0_2_1 (ix3 b k t)
      = if (t.val : ℤ) < (len (ix1 b)).toInt then O (ix3 t b k) else 0 := by
  pointwise
  rw [← toInt_ofNat_lt t.isLt]
  exact WordCmp.select_decide _ _ _

section Result

variable (m : (ℓ : Loc nD τ sig) → Buf (Elt Ideal) ℓ) (c : Dev nD)

/-- What the loop's arrays hold after `n` trips of the run. -/
theorem inv_iter (n : ℕ) (hn : n ≤ 2048) :
    Inv (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (STEP^[n] (entryContents preI m c)) n := by
  induction n with
  | zero => exact ⟨entry_x m c, entry_w m c, entry_b m c, entry_c m c, entry_h m c _ _ _ _ _, entry_o m c _ _ _ _ _⟩
  | succ n ih =>
    rw [Function.iterate_succ_apply']
    exact inv_step _ _ _ _ _ hn (ih (Nat.le_of_lt hn))

/-- The states' array when the loop has ended. -/
theorem loop_out : StableHlo.after condOps (atK m 2048 c) (Proc.devRef .tc main_v8_5)
    = oArr (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) 2048 :=
  (cond_keeps _ main_v8_5 (by decide)).trans ((atK_agree m c 2048 main_v8_5 (by decide)).trans (inv_iter m c 2048 (le_refl _)).ho)

/-- The reference's result, entry by entry. -/
theorem result_at (b : Fin 16) (k : Fin 128) (t : Fin 2048) :
    (finalContents condOps preI bodyI postI 2048 m c (Proc.devRef .tc main_v18) : FVec Ideal S16x128x2048 .f32) (ix3 b k t)
      = if (t.val : ℤ) < ((m ((c.tc : Thread nD τ).loc main_arg1) : IVec S16 32) (ix1 b)).toInt then
          state (fun b c' t => (m ((c.tc : Thread nD τ).loc main_arg0) : FVec Ideal S16x128x2048 .f32) (ix3 b c' t))
            (fun g c' => (m ((c.tc : Thread nD τ).loc main_arg2) : FVec Ideal S384x128 .f32) (ix2 g c'))
            (fun g c' => (m ((c.tc : Thread nD τ).loc main_arg3) : FVec Ideal S384x128 .f32) (ix2 g c'))
            (fun g => (m ((c.tc : Thread nD τ).loc main_arg4) : FVec Ideal S384 .f32) (ix1 g))
            (fun g => (m ((c.tc : Thread nD τ).loc main_arg5) : FVec Ideal S384 .f32) (ix1 g)) (t.val + 1) b k
        else 0 := by
  have hl : StableHlo.after condOps (atK m 2048 c) (Proc.devRef .tc main_arg1) = m ((c.tc : Thread nD τ).loc main_arg1) := by
    rw [after_keeps condOps_writes _ (by decide), atK_keeps m c (by decide) 2048]
    simp only [entryContents, afterL_cons, afterL_nil]
    rw [after_keeps hostOps0_writes _ (by decide)]
  have ho := loop_out m c
  unfold finalContents
  simp only [afterL_cons, afterL_nil]
  generalize StableHlo.after condOps (atK m 2048 c) = X at hl ho ⊢
  after_reads_simp
  simp only [TRef.ofBuf_toBuf]
  rw [hl, ho]
  simp -implicitDefEqProofs only [TRef.toBuf, TRef.ofBuf, cast_cast, cast_eq]
  refine (masked_at _ _ b k t).trans ?_
  rw [oArr_at _ _ _ _ _ t.isLt]

end Result

end Cert.ReferenceIdeal.Gru
-- ==== Proof.Value.lean ====
/- The value claim: on arguments the precondition allows, the kernel and the reference end with equal results. -/
module

public import proofs.«01_k».proof.Defs
public import proofs.«01_k».proof.Proof.Val.Pre
public import proofs.«01_k».proof.Proof.KI.Value
public import proofs.«01_k».proof.Proof.Ref.Value

@[expose] public section

set_option maxRecDepth 16384

noncomputable section

namespace Cert.Gru

open Idealize.ShloMosaic Idealize.ShloMosaic.TcCoe Idealize.ShloMosaic.StableHlo

/-- Two arrays with the same entries are the same. -/
theorem ext3 (u v : FVec Ideal Cert.KernelIdeal.S16x128x2048 .f32) (h : ∀ b k t, u (ix3 b k t) = v (ix3 b k t)) : u = v :=
  funext fun j => by rw [eq_ix3 j]; exact h _ _ _

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The result the recurrence gives, masked by the lengths. -/
def masked (x : FVec Ideal Cert.KernelIdeal.S16x128x2048 .f32) (len : IVec Cert.KernelIdeal.S16 32)
    (wi wh : FVec Ideal Cert.KernelIdeal.S384x128 .f32) (bi bh : FVec Ideal Cert.KernelIdeal.S384 .f32)
    (b : Fin 16) (k : Fin 128) (t : Fin 2048) : EReal :=
  if (t.val : ℤ) < (len (ix1 b)).toInt then
    state (fun b i t => x (ix3 b i t)) (fun g i => wi (ix2 g i)) (fun g i => wh (ix2 g i)) (fun g => bi (ix1 g)) (fun g => bh (ix1 g)) (t.val + 1) b k
  else 0

/-- Equal arguments give equal results. -/
theorem masked_congr {x x' : FVec Ideal Cert.KernelIdeal.S16x128x2048 .f32} {len len' : IVec Cert.KernelIdeal.S16 32}
    {wi wi' wh wh' : FVec Ideal Cert.KernelIdeal.S384x128 .f32} {bi bi' bh bh' : FVec Ideal Cert.KernelIdeal.S384 .f32}
    (h0 : x = x') (h1 : len = len') (h2 : wi = wi') (h3 : wh = wh') (h4 : bi = bi') (h5 : bh = bh')
    (b : Fin 16) (k : Fin 128) (t : Fin 2048) : masked x len wi wh bi bh b k t = masked x' len' wi' wh' bi' bh' b k t := by
  rw [h0, h1, h2, h3, h4, h5]

/-- The reference's result is that, -/
theorem ref_at (c : Dev Cert.ReferenceIdeal.nD) (b : Fin 16) (k : Fin 128) (t : Fin 2048) :
    (finalContents Cert.ReferenceIdeal.Value.condOps Cert.ReferenceIdeal.Value.preI Cert.ReferenceIdeal.Value.bodyI Cert.ReferenceIdeal.Value.postI 2048 m' c (Proc.devRef .tc Cert.ReferenceIdeal.main_v18) : FVec Ideal Cert.KernelIdeal.S16x128x2048 .f32) (ix3 b k t)
      = masked (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) b k t :=
  Cert.ReferenceIdeal.Gru.result_at m' c b k t

/-- and so is the kernel's. -/
theorem ker_at (c : Dev Cert.KernelIdeal.nD) (hr : Cert.KernelIdeal.Gru.Real m c)
    (hL : ∀ b, (Cert.KernelIdeal.Gru.argL m c (ix1 b)).toInt ≤ (Cert.KernelIdeal.Gru.argL m c (ix1 0)).toInt) (b : Fin 16) (k : Fin 128) (t : Fin 2048) :
    (Cert.KernelIdeal.Gru.VT m c Cert.KernelIdeal.main_v26 : FVec Ideal Cert.KernelIdeal.S16x128x2048 .f32) (ix3 b k t)
      = masked (Cert.KernelIdeal.Gru.argX m c) (Cert.KernelIdeal.Gru.argL m c) (Cert.KernelIdeal.Gru.argWi m c) (Cert.KernelIdeal.Gru.argWh m c)
          (Cert.KernelIdeal.Gru.argBi m c) (Cert.KernelIdeal.Gru.argBh m c) b k t :=
  Cert.KernelIdeal.Gru.result_at m c hr hL b k t

/-- The arrays the kernel's and the reference's runs end with are equal, where the arguments are and the precondition
    holds. -/
theorem results_eq (c : Dev Cert.KernelIdeal.nD) (hp : Cert.Pre_KernelIdeal_longest_first_finite_candidate (hPre_longest_first_finite_candidate := preFacts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (finalContents Cert.ReferenceIdeal.Value.condOps Cert.ReferenceIdeal.Value.preI Cert.ReferenceIdeal.Value.bodyI Cert.ReferenceIdeal.Value.postI 2048 m' c (Proc.devRef .tc Cert.ReferenceIdeal.main_v18) : FVec Ideal Cert.KernelIdeal.S16x128x2048 .f32)
      = Cert.KernelIdeal.Gru.VT m c Cert.KernelIdeal.main_v26 := by
  have hh := @pre_holds preFacts _ _ _ _ _ _ (hp c)
  refine ext3 _ _ fun b k t => (ref_at m' c b k t).trans ?_
  refine Eq.trans ?_ (ker_at m c ⟨fun k i => (hh 0 k i).2.1, fun k => (hh 0 k 0).2.2⟩ (fun b => (hh b 0 0).1) b k t).symm
  exact masked_congr h0 h1 h2 h3 h4 h5 b k t

end Cert.Gru
-- ==== Proof.lean ====
/- The proof of the certificate's claim: the three frames, that the idealised form preserves the kernel, and that the
   kernel and the reference compute the same. -/
module

public import proofs.«01_k».proof.Defs
public import proofs.«01_k».proof.Proof.K.Frame
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Gru.preFacts,
  fun m ρ _ => Cert.Kernel.Gru.frame m ρ,
  fun m ρ _ => Cert.KernelIdeal.Gru.frame m ρ,
  fun m ρ _ => Cert.KernelIdeal.Gru.frame m ρ,
  fun m ρ _ => Cert.ReferenceIdeal.Gru.frame m ρ,
  fun m ρ _ => Cert.ReferenceIdeal.Gru.frame m ρ,
  trivial,
  fun m ρ m' ρ' hp hm => ⟨fun c => Cert.KernelIdeal.Gru.VT m c Cert.KernelIdeal.main_v26, fun c => m _,
    (Idealize.ShloMosaic.θ_run _ _ _).mono (fun _ h c => ⟨(h c).1, (h c).2.2.1, (h c).2⟩) (Cert.KernelIdeal.Gru.result_args m ρ),
    (Idealize.ShloMosaic.θ_run _ _ _).mono (fun _ h c =>
      have e := hm c
      ⟨(h c).1.trans (Cert.Gru.results_eq m m' c hp e.1 e.2.1 e.2.2.1 e.2.2.2.1 e.2.2.2.2.1 e.2.2.2.2.2), (h c).2.2.1.trans e.2.1, (h c).2⟩)
      (Cert.ReferenceIdeal.Gru.run_args m' ρ')⟩⟩

end Cert.Proof

end
